-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def preserves_Kernel_KernelIdeal : Prop :=
  True

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v7)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v13) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v7)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v36) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v32) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v22)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v30) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v13) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hNorm : Cert.Norm.Facts) (hNormIdeal : Cert.NormIdeal.Facts) (hNormReferenceIdeal : Cert.NormReferenceIdeal.Facts) (hUp : Cert.Up.Facts) (hUpIdeal : Cert.UpIdeal.Facts) (hUpReferenceIdeal : Cert.UpReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hPre_qk_finite : Cert.Pre_qk_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_Down (hDown := hDown)
    ∧ quiescent_DownIdeal (hDownIdeal := hDownIdeal)
    ∧ quiescent_DownReferenceIdeal (hDownReferenceIdeal := hDownReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Up (hUp := hUp)
    ∧ quiescent_UpIdeal (hUpIdeal := hUpIdeal)
    ∧ quiescent_UpReferenceIdeal (hUpReferenceIdeal := hUpReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_Down_DownIdeal
    ∧ algebraic_DownIdeal_DownReferenceIdeal (hDownIdeal := hDownIdeal) (hDownReferenceIdeal := hDownReferenceIdeal)
    ∧ preserves_Norm_NormIdeal
    ∧ algebraic_NormIdeal_NormReferenceIdeal (hNormIdeal := hNormIdeal) (hNormReferenceIdeal := hNormReferenceIdeal)
    ∧ preserves_Up_UpIdeal
    ∧ algebraic_UpIdeal_UpReferenceIdeal (hUpIdeal := hUpIdeal) (hUpReferenceIdeal := hUpReferenceIdeal)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
    ∧ preserves_Out_OutIdeal
    ∧ algebraic_OutIdeal_OutReferenceIdeal (hOutIdeal := hOutIdeal) (hOutReferenceIdeal := hOutReferenceIdeal)
-- ==== Pre_qk_finite.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S4x256x16x128 : Shape := ⟨4, ![4, 256, 16, 128]⟩
abbrev S4x256x64 : Shape := ⟨3, ![4, 256, 64]⟩
abbrev S_ : Shape := ⟨0, ![]⟩

class Facts : Prop where
  bcast_S_S4x4096x16x128 : S_.BroadcastsInDim S4x4096x16x128 (![] : Fin 0 → Fin S4x4096x16x128.rank)
  reducesTo_S4x4096x16x128_S_d0_1_2_3 : S4x4096x16x128.ReducesTo [0, 1, 2, 3] S_
  h_S_ : 0 < S_.numel
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  bcast_S_S4x4096x64 : S_.BroadcastsInDim S4x4096x64 (![] : Fin 0 → Fin S4x4096x64.rank)
  reducesTo_S4x4096x64_S_d0_1_2 : S4x4096x64.ReducesTo [0, 1, 2] S_
  bcast_S_S4x256x16x128 : S_.BroadcastsInDim S4x256x16x128 (![] : Fin 0 → Fin S4x256x16x128.rank)
  reducesTo_S4x256x16x128_S_d0_1_2_3 : S4x256x16x128.ReducesTo [0, 1, 2, 3] S_
  bcast_S_S4x256x64 : S_.BroadcastsInDim S4x256x64 (![] : Fin 0 → Fin S4x256x64.rank)
  reducesTo_S4x256x64_S_d0_1_2 : S4x256x64.ReducesTo [0, 1, 2] S_

variable [Facts]

def fn_part1 {F : FTy → Type} [FloatOps F] (main_arg5 : FVec F S4x256x16x128 .f32) (main_arg6 : FVec F S4x256x64 .f32) (main_v13 : IVec S_ 1) (main_v16 : IVec S4x4096x64 1) : IVec S_ 1 :=
  let main_c_5 : IVec S_ 1 := constantI S_ 1 1#1
  let main_v17 : IVec S_ 1 := (fun x v => Host.reduce IntOp.andi x v reducesTo_S4x4096x64_S_d0_1_2 h_S_) main_v16 main_c_5
  let main_v18 : IVec S_ 1 := andi main_v13 main_v17
  let main_v19 : FVec F S4x256x16x128 .f32 := Host.absf main_arg5
  let main_cst_6 : FVec F S_ .f32 := constant S_ .f32 0x7F800000#32
  let main_v20 : FVec F S4x256x16x128 .f32 := broadcastInDim S4x256x16x128 ![] bcast_S_S4x256x16x128 main_cst_6
  let main_v21 : IVec S4x256x16x128 1 := cmpf .olt main_v19 main_v20
  let main_c_7 : IVec S_ 1 := constantI S_ 1 1#1
  let main_v22 : IVec S_ 1 := (fun x v => Host.reduce IntOp.andi x v reducesTo_S4x256x16x128_S_d0_1_2_3 h_S_) main_v21 main_c_7
  let main_v23 : IVec S_ 1 := andi main_v18 main_v22
  let main_v24 : FVec F S4x256x64 .f32 := Host.absf main_arg6
  let main_cst_8 : FVec F S_ .f32 := constant S_ .f32 0x7F800000#32
  let main_v25 : FVec F S4x256x64 .f32 := broadcastInDim S4x256x64 ![] bcast_S_S4x256x64 main_cst_8
  let main_v26 : IVec S4x256x64 1 := cmpf .olt main_v24 main_v25
  let main_c_9 : IVec S_ 1 := constantI S_ 1 1#1
  let main_v27 : IVec S_ 1 := (fun x v => Host.reduce IntOp.andi x v reducesTo_S4x256x64_S_d0_1_2 h_S_) main_v26 main_c_9
  let main_v28 : IVec S_ 1 := andi main_v23 main_v27
  main_v28

def fn {F : FTy → Type} [FloatOps F] (main_arg0 : FVec F S4x4096x16x128 .f32) (main_arg1 : FVec F S4x4096x16x64 .f32) (main_arg2 : FVec F S4x4096x16x128 .f32) (main_arg3 : FVec F S4x4096x64 .f32) (main_arg4 : FVec F S4x4096x16x128 .f32) (main_arg5 : FVec F S4x256x16x128 .f32) (main_arg6 : FVec F S4x256x64 .f32) (main_arg7 : FVec F S4x256x16x128 .f32) : IVec S_ 1 :=
  let main_v0 : FVec F S4x4096x16x128 .f32 := Host.absf main_arg0
  let main_cst : FVec F S_ .f32 := constant S_ .f32 0x7F800000#32
  let main_v1 : FVec F S4x4096x16x128 .f32 := broadcastInDim S4x4096x16x128 ![] bcast_S_S4x4096x16x128 main_cst
  let main_v2 : IVec S4x4096x16x128 1 := cmpf .olt main_v0 main_v1
  let main_c : IVec S_ 1 := constantI S_ 1 1#1
  let main_v3 : IVec S_ 1 := (fun x v => Host.reduce IntOp.andi x v reducesTo_S4x4096x16x128_S_d0_1_2_3 h_S_) main_v2 main_c
  let main_v4 : FVec F S4x4096x16x64 .f32 := Host.absf main_arg1
  let main_cst_0 : FVec F S_ .f32 := constant S_ .f32 0x7F800000#32
  let main_v5 : FVec F S4x4096x16x64 .f32 := broadcastInDim S4x4096x16x64 ![] bcast_S_S4x4096x16x64 main_cst_0
  let main_v6 : IVec S4x4096x16x64 1 := cmpf .olt main_v4 main_v5
  let main_c_1 : IVec S_ 1 := constantI S_ 1 1#1
  let main_v7 : IVec S_ 1 := (fun x v => Host.reduce IntOp.andi x v reducesTo_S4x4096x16x64_S_d0_1_2_3 h_S_) main_v6 main_c_1
  let main_v8 : IVec S_ 1 := andi main_v3 main_v7
  let main_v9 : FVec F S4x4096x16x128 .f32 := Host.absf main_arg2
  let main_cst_2 : FVec F S_ .f32 := constant S_ .f32 0x7F800000#32
  let main_v10 : FVec F S4x4096x16x128 .f32 := broadcastInDim S4x4096x16x128 ![] bcast_S_S4x4096x16x128 main_cst_2
  let main_v11 : IVec S4x4096x16x128 1 := cmpf .olt main_v9 main_v10
  let main_c_3 : IVec S_ 1 := constantI S_ 1 1#1
  let main_v12 : IVec S_ 1 := (fun x v => Host.reduce IntOp.andi x v reducesTo_S4x4096x16x128_S_d0_1_2_3 h_S_) main_v11 main_c_3
  let main_v13 : IVec S_ 1 := andi main_v8 main_v12
  let main_v14 : FVec F S4x4096x64 .f32 := Host.absf main_arg3
  let main_cst_4 : FVec F S_ .f32 := constant S_ .f32 0x7F800000#32
  let main_v15 : FVec F S4x4096x64 .f32 := broadcastInDim S4x4096x64 ![] bcast_S_S4x4096x64 main_cst_4
  let main_v16 : IVec S4x4096x64 1 := cmpf .olt main_v14 main_v15
  fn_part1 (F := F) main_arg5 main_arg6 main_v13 main_v16
-- ==== Kernel.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S4x256x16x128 : Shape := ⟨4, ![4, 256, 16, 128]⟩
abbrev S4x256x64 : Shape := ⟨3, ![4, 256, 64]⟩
abbrev S_ : Shape := ⟨0, ![]⟩
abbrev S4x4096x16x256 : Shape := ⟨4, ![4, 4096, 16, 256]⟩
abbrev S16384x4096 : Shape := ⟨2, ![16384, 4096]⟩
abbrev S4x256x32x128 : Shape := ⟨4, ![4, 256, 32, 128]⟩
abbrev S1024x4096 : Shape := ⟨2, ![1024, 4096]⟩
abbrev S4x256x128 : Shape := ⟨3, ![4, 256, 128]⟩
abbrev S1024x128 : Shape := ⟨2, ![1024, 128]⟩
abbrev S4x4096x32x128 : Shape := ⟨4, ![4, 4096, 32, 128]⟩
abbrev S4x4096x128 : Shape := ⟨3, ![4, 4096, 128]⟩
abbrev S16384x128 : Shape := ⟨2, ![16384, 128]⟩
abbrev S16384x2048 : Shape := ⟨2, ![16384, 2048]⟩
abbrev S2048x256 : Shape := ⟨2, ![2048, 256]⟩
abbrev S4096x128 : Shape := ⟨2, ![4096, 128]⟩
abbrev S256x128 : Shape := ⟨2, ![256, 128]⟩
abbrev S2048x128 : Shape := ⟨2, ![2048, 128]⟩
abbrev S256x4352 : Shape := ⟨2, ![256, 4352]⟩
abbrev S2048x4352 : Shape := ⟨2, ![2048, 4352]⟩
abbrev S128x256 : Shape := ⟨2, ![128, 256]⟩
abbrev S256x256 : Shape := ⟨2, ![256, 256]⟩
abbrev S256 : Shape := ⟨1, ![256]⟩
abbrev S256x1 : Shape := ⟨2, ![256, 1]⟩

abbrev nBuf : Space → Nat
  | .hbm => 37
  | .vmem => 18
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x16x64, .f32⟩
  | .hbm, ⟨2, _⟩ => ⟨S4x4096x16x128, .f32⟩
  | .hbm, ⟨3, _⟩ => ⟨S4x4096x64, .f32⟩
  | .hbm, ⟨4, _⟩ => ⟨S4x4096x16x128, .f32⟩
  | .hbm, ⟨5, _⟩ => ⟨S4x256x16x128, .f32⟩
  | .hbm, ⟨6, _⟩ => ⟨S4x256x64, .f32⟩
  | .hbm, ⟨7, _⟩ => ⟨S4x256x16x128, .f32⟩
  | .hbm, ⟨8, _⟩ => ⟨S_, .f32⟩
  | .hbm, ⟨9, _⟩ => ⟨S4x4096x16x64, .f32⟩
  | .hbm, ⟨10, _⟩ => ⟨S4x4096x16x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x4096x16x256, .f32⟩
  | .hbm, ⟨17, _⟩ => ⟨S4x4096x16x256, .f32⟩
  | .hbm, ⟨18, _⟩ => ⟨S16384x4096, .f32⟩
  | .hbm, ⟨19, _⟩ => ⟨S16384x4096, .bf16⟩
  | .hbm, ⟨20, _⟩ => ⟨S4x256x32x128, .f32⟩
  | .hbm, ⟨21, _⟩ => ⟨S1024x4096, .f32⟩
  | .hbm, ⟨22, _⟩ => ⟨S1024x4096, .bf16⟩
  | .hbm, ⟨23, _⟩ => ⟨S_, .f32⟩
  | .hbm, ⟨24, _⟩ => ⟨S4x256x64, .f32⟩
  | .hbm, ⟨25, _⟩ => ⟨S4x256x128, .f32⟩
  | .hbm, ⟨26, _⟩ => ⟨S1024x128, .f32⟩
  | .hbm, ⟨27, _⟩ => ⟨S1024x128, .bf16⟩
  | .hbm, ⟨28, _⟩ => ⟨S4x4096x32x128, .f32⟩
  | .hbm, ⟨29, _⟩ => ⟨S16384x4096, .f32⟩
  | .hbm, ⟨30, _⟩ => ⟨S16384x4096, .bf16⟩
  | .hbm, ⟨31, _⟩ => ⟨S_, .f32⟩
  | .hbm, ⟨32, _⟩ => ⟨S4x4096x64, .f32⟩
  | .hbm, ⟨33, _⟩ => ⟨S4x4096x128, .f32⟩
  | .hbm, ⟨34, _⟩ => ⟨S16384x128, .f32⟩
  | .hbm, ⟨35, _⟩ => ⟨S16384x128, .bf16⟩
  | .hbm, ⟨36, _⟩ => ⟨S16384x2048, .bf16⟩
  | .local _ .vmem, ⟨0, _⟩ => ⟨S2048x256, .bf16⟩
  | .local _ .vmem, ⟨1, _⟩ => ⟨S2048x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S2048x128, .bf16⟩
  | .local _ .vmem, ⟨15, _⟩ => ⟨S2048x128, .bf16⟩
  | .local _ .vmem, ⟨16, _⟩ => ⟨S256x4352, .bf16⟩
  | .local _ .vmem, ⟨17, _⟩ => ⟨S2048x4352, .f32⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S4x256x16x128 : Shape := ⟨4, ![4, 256, 16, 128]⟩
abbrev S4x256x64 : Shape := ⟨3, ![4, 256, 64]⟩
abbrev S4x4352x16x128 : Shape := ⟨4, ![4, 4352, 16, 128]⟩
abbrev S4x4352x64 : Shape := ⟨3, ![4, 4352, 64]⟩
abbrev S4x16x4096x4352 : Shape := ⟨4, ![4, 16, 4096, 4352]⟩
abbrev S4x4352x4096x16 : Shape := ⟨4, ![4, 4352, 4096, 16]⟩
abbrev S_ : Shape := ⟨0, ![]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S16384x2048 : Shape := ⟨2, ![16384, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x16x64, .f32⟩
  | .hbm, ⟨2, _⟩ => ⟨S4x4096x16x128, .f32⟩
  | .hbm, ⟨3, _⟩ => ⟨S4x4096x64, .f32⟩
  | .hbm, ⟨4, _⟩ => ⟨S4x4096x16x128, .f32⟩
  | .hbm, ⟨5, _⟩ => ⟨S4x256x16x128, .f32⟩
  | .hbm, ⟨6, _⟩ => ⟨S4x256x64, .f32⟩
  | .hbm, ⟨7, _⟩ => ⟨S4x256x16x128, .f32⟩
  | .hbm, ⟨8, _⟩ => ⟨S4x4352x16x128, .f32⟩
  | .hbm, ⟨9, _⟩ => ⟨S4x4352x64, .f32⟩
  | .hbm, ⟨10, _⟩ => ⟨S4x4352x16x128, .f32⟩
  | .hbm, ⟨11, _⟩ => ⟨S4x16x4096x4352, .f32⟩
  | .hbm, ⟨12, _⟩ => ⟨S4x4352x4096x16, .f32⟩
  | .hbm, ⟨13, _⟩ => ⟨S4x16x4096x4352, .f32⟩
  | .hbm, ⟨14, _⟩ => ⟨S4x16x4096x4352, .f32⟩
  | .hbm, ⟨15, _⟩ => ⟨S_, .f32⟩
  | .hbm, ⟨16, _⟩ => ⟨S_, .f32⟩
  | .hbm, ⟨17, _⟩ => ⟨S4x16x4096x4352, .f32⟩
  | .hbm, ⟨18, _⟩ => ⟨S4x16x4096x4352, .f32⟩
  | .hbm, ⟨19, _⟩ => ⟨S_, .f32⟩
  | .hbm, ⟨20, _⟩ => ⟨S4x16x4096, .f32⟩
  | .hbm, ⟨21, _⟩ => ⟨S_, .f32⟩
  | .hbm, ⟨22, _⟩ => ⟨S4x16x4096, .f32⟩
  | .hbm, ⟨23, _⟩ => ⟨S4x16x4096, .f32⟩
  | .hbm, ⟨24, _⟩ => ⟨S4x16x4096x1, .f32⟩
  | .hbm, ⟨25, _⟩ => ⟨S4x16x4096x4352, .f32⟩
  | .hbm, ⟨26, _⟩ => ⟨S4x16x4096x4352, .f32⟩
  | .hbm, ⟨27, _⟩ => ⟨S4x16x4096x4352, .f32⟩
  | .hbm, ⟨28, _⟩ => ⟨S_, .f32⟩
  | .hbm, ⟨29, _⟩ => ⟨S4x16x4096, .f32⟩
  | .hbm, ⟨30, _⟩ => ⟨S4x16x4096x1, .f32⟩
  | .hbm, ⟨31, _⟩ => ⟨S4x16x4096x4352, .f32⟩
  | .hbm, ⟨32, _⟩ => ⟨S4x16x4096x4352, .f32⟩
  | .hbm, ⟨33, _⟩ => ⟨S4x16x128x4096, .f32⟩
  | .hbm, ⟨34, _⟩ => ⟨S4x4096x16x128, .f32⟩
  | .hbm, ⟨35, _⟩ => ⟨S16384x2048, .f32⟩
  | .hbm, ⟨36, _⟩ => ⟨S16384x2048, .bf16⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Down.lean ====
abbrev S4x4096x5632 : Shape := ⟨3, ![4, 4096, 5632]⟩
abbrev S4x4096x2048 : Shape := ⟨3, ![4, 4096, 2048]⟩
abbrev S4x12288 : Shape := ⟨2, ![4, 12288]⟩
abbrev S2x5632x2048 : Shape := ⟨3, ![2, 5632, 2048]⟩
abbrev S16384x5632 : Shape := ⟨2, ![16384, 5632]⟩
abbrev S16384x2048 : Shape := ⟨2, ![16384, 2048]⟩
abbrev S_ : Shape := ⟨0, ![]⟩
abbrev S8x12288 : Shape := ⟨2, ![8, 12288]⟩
abbrev S8x1x12288 : Shape := ⟨3, ![8, 1, 12288]⟩
abbrev S1024x5632 : Shape := ⟨2, ![1024, 5632]⟩
abbrev S1x5632x512 : Shape := ⟨3, ![1, 5632, 512]⟩
abbrev S1024x512 : Shape := ⟨2, ![1024, 512]⟩
abbrev S1x1x512 : Shape := ⟨3, ![1, 1, 512]⟩
abbrev S1x512 : Shape := ⟨2, ![1, 512]⟩
abbrev S5632x512 : Shape := ⟨2, ![5632, 512]⟩

abbrev nBuf : Space → Nat
  | .hbm => 13
  | .vmem => 10
  | .smem => 0
  | _ => 0

abbrev bufTy : (tb : Table) → Fin (tcTables nBuf tb) → BufTy
  | .hbm, ⟨0, _⟩ => ⟨S4x4096x5632, .f32⟩
  | .hbm, ⟨1, _⟩ => ⟨S4x4096x2048, .f32⟩
  | .hbm, ⟨2, _⟩ => ⟨S4x12288, .f32⟩
  | .hbm, ⟨3, _⟩ => ⟨S2x5632x2048, .f32⟩
  | .hbm, ⟨4, _⟩ => ⟨S16384x5632, .f32⟩
  | .hbm, ⟨5, _⟩ => ⟨S16384x5632, .bf16⟩
  | .hbm, ⟨6, _⟩ => ⟨S2x5632x2048, .bf16⟩
  | .hbm, ⟨7, _⟩ => ⟨S16384x2048, .f32⟩
  | .hbm, ⟨8, _⟩ => ⟨S_, .f32⟩
  | .hbm, ⟨9, _⟩ => ⟨S4x12288, .f32⟩
  | .hbm, ⟨10, _⟩ => ⟨S8x12288, .f32⟩
  | .hbm, ⟨11, _⟩ => ⟨S8x1x12288, .f32⟩
  | .hbm, ⟨12, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c20_i32 : BitVec 32 := 20#32
  let v18 : BitVec 32 := Scalar.addi c20_i32 arg1
  let c0_i32_4 : BitVec 32 := 0#32
  let c0_i32_5 : BitVec 32 := 0#32
  ![v17.toNat, c0_i32_4.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownReferenceIdeal.lean ====
abbrev S4x4096x5632 : Shape := ⟨3, ![4, 4096, 5632]⟩
abbrev S4x4096x2048 : Shape := ⟨3, ![4, 4096, 2048]⟩
abbrev S4x12288 : Shape := ⟨2, ![4, 12288]⟩
abbrev S2x5632x2048 : Shape := ⟨3, ![2, 5632, 2048]⟩
abbrev S4x2048 : Shape := ⟨2, ![4, 2048]⟩
abbrev S4x1x2048 : Shape := ⟨3, ![4, 1, 2048]⟩
abbrev S1x5632x2048 : Shape := ⟨3, ![1, 5632, 2048]⟩
abbrev S5632x2048 : Shape := ⟨2, ![5632, 2048]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x5632, .f32⟩
  | .hbm, ⟨1, _⟩ => ⟨S4x4096x2048, .f32⟩
  | .hbm, ⟨2, _⟩ => ⟨S4x12288, .f32⟩
  | .hbm, ⟨3, _⟩ => ⟨S2x5632x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x1x2048, .f32⟩
  | .hbm, ⟨11, _⟩ => ⟨S1x5632x2048, .f32⟩
  | .hbm, ⟨12, _⟩ => ⟨S5632x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S16384x2048, .f32⟩
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Norm.lean ====
abbrev S4x4096x2048 : Shape := ⟨3, ![4, 4096, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S1x1x2048, .f32⟩
  | .hbm, ⟨16, _⟩ => ⟨S4x4096x2048, .f32⟩
  | .hbm, ⟨17, _⟩ => ⟨S4x4096x2048, .f32⟩
  | .hbm, ⟨18, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Up.lean ====
abbrev S4x4096x2048 : Shape := ⟨3, ![4, 4096, 2048]⟩
abbrev S2048 : Shape := ⟨1, ![2048]⟩
abbrev S4x12288 : Shape := ⟨2, ![4, 12288]⟩
abbrev S2x2048x5632 : Shape := ⟨3, ![2, 2048, 5632]⟩
abbrev S16384x2048 : Shape := ⟨2, ![16384, 2048]⟩
abbrev S_ : Shape := ⟨0, ![]⟩
abbrev S8x12288 : Shape := ⟨2, ![8, 12288]⟩
abbrev S8x1x12288 : Shape := ⟨3, ![8, 1, 12288]⟩
abbrev S1x2048 : Shape := ⟨2, ![1, 2048]⟩
abbrev S16384x5632 : Shape := ⟨2, ![16384, 5632]⟩
abbrev S1024x2048 : Shape := ⟨2, ![1024, 2048]⟩
abbrev S1x1x2048 : Shape := ⟨3, ![1, 1, 2048]⟩
abbrev S1x2048x512 : Shape := ⟨3, ![1, 2048, 512]⟩
abbrev S1024x512 : Shape := ⟨2, ![1024, 512]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩

abbrev nBuf : Space → Nat
  | .hbm => 14
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x12288, .f32⟩
  | .hbm, ⟨3, _⟩ => ⟨S2x2048x5632, .f32⟩
  | .hbm, ⟨4, _⟩ => ⟨S2x2048x5632, .f32⟩
  | .hbm, ⟨5, _⟩ => ⟨S16384x2048, .f32⟩
  | .hbm, ⟨6, _⟩ => ⟨S_, .f32⟩
  | .hbm, ⟨7, _⟩ => ⟨S4x12288, .f32⟩
  | .hbm, ⟨8, _⟩ => ⟨S8x12288, .f32⟩
  | .hbm, ⟨9, _⟩ => ⟨S8x1x12288, .f32⟩
  | .hbm, ⟨10, _⟩ => ⟨S2x2048x5632, .bf16⟩
  | .hbm, ⟨11, _⟩ => ⟨S2x2048x5632, .bf16⟩
  | .hbm, ⟨12, _⟩ => ⟨S1x2048, .f32⟩
  | .hbm, ⟨13, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1024x512, .bf16⟩
  | .local _ .vmem, ⟨12, _⟩ => ⟨S1024x512, .bf16⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c64_i32 : BitVec 32 := 64#32
  let v15 : BitVec 32 := Scalar.addi c0_i32_11 c64_i32
  let c1_i32 : BitVec 32 := 1#32
  ⟨c0_i32_11, v15, c1_i32⟩
def k0_mult1 (k0_t1 : Fin k0_t1_loop.trips) : BitVec 32 :=
  let c0_i32_11 : BitVec 32 := 0#32
  let c1_i32 : BitVec 32 := 1#32
  let arg10 : BitVec 32 := Scf.iv c0_i32_11 c1_i32 k0_t1
  let c16_i32 : BitVec 32 := 16#32
  let v16 : BitVec 32 := Scalar.muli arg10 c16_i32
  v16
def k0_off1 (k0_t1 : Fin k0_t1_loop.trips) : Fin 2 → Nat :=
  let c0_i32_11 : BitVec 32 := 0#32
  let c1_i32 : BitVec 32 := 1#32
  let arg10 : BitVec 32 := Scf.iv c0_i32_11 c1_i32 k0_t1
  let c16_i32 : BitVec 32 := 16#32
  let v16 : BitVec 32 := Scalar.muli arg10 c16_i32
  let v17 : BitVec 32 := v16
  let v18 : Index := Scalar.indexCast v17
  let c0_13 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpReferenceIdeal.lean ====
abbrev S4x4096x2048 : Shape := ⟨3, ![4, 4096, 2048]⟩
abbrev S2048 : Shape := ⟨1, ![2048]⟩
abbrev S4x12288 : Shape := ⟨2, ![4, 12288]⟩
abbrev S2x2048x5632 : Shape := ⟨3, ![2, 2048, 5632]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S1x2048x5632 : Shape := ⟨3, ![1, 2048, 5632]⟩
abbrev S2048x5632 : Shape := ⟨2, ![2048, 5632]⟩
abbrev S4x4096x5632 : Shape := ⟨3, ![4, 4096, 5632]⟩
abbrev S16384x5632 : Shape := ⟨2, ![16384, 5632]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x12288, .f32⟩
  | .hbm, ⟨3, _⟩ => ⟨S2x2048x5632, .f32⟩
  | .hbm, ⟨4, _⟩ => ⟨S2x2048x5632, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x4096x2048, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S1x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S1x2048x5632, .f32⟩
  | .hbm, ⟨37, _⟩ => ⟨S2048x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S_, .f32⟩
  | .hbm, ⟨42, _⟩ => ⟨S4x4096x5632, .f32⟩
  | .hbm, ⟨43, _⟩ => ⟨S4x4096x5632, .f32⟩
  | .hbm, ⟨44, _⟩ => ⟨S_, .f32⟩
  | .hbm, ⟨45, _⟩ => ⟨S4x4096x5632, .f32⟩
  | .hbm, ⟨46, _⟩ => ⟨S4x4096x5632, .f32⟩
  | .hbm, ⟨47, _⟩ => ⟨S4x4096x5632, .f32⟩
  | .hbm, ⟨48, _⟩ => ⟨S1x2048x5632, .f32⟩
  | .hbm, ⟨49, _⟩ => ⟨S2048x5632, .f32⟩
  | .hbm, ⟨50, _⟩ => ⟨S4x4096x5632, .f32⟩
  | .hbm, ⟨51, _⟩ => ⟨S4x4096x5632, .f32⟩
  | .hbm, ⟨52, _⟩ => ⟨S16384x5632, .f32⟩
  | .hbm, ⟨53, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proj.lean ====
abbrev S4x4096x2048 : Shape := ⟨3, ![4, 4096, 2048]⟩
abbrev S2048 : Shape := ⟨1, ![2048]⟩
abbrev S4x12288 : Shape := ⟨2, ![4, 12288]⟩
abbrev S2x10752x2048 : Shape := ⟨3, ![2, 10752, 2048]⟩
abbrev S16384x2048 : Shape := ⟨2, ![16384, 2048]⟩
abbrev S_ : Shape := ⟨0, ![]⟩
abbrev S8x12288 : Shape := ⟨2, ![8, 12288]⟩
abbrev S8x1x12288 : Shape := ⟨3, ![8, 1, 12288]⟩
abbrev S1x2048 : Shape := ⟨2, ![1, 2048]⟩
abbrev S16384x10752 : Shape := ⟨2, ![16384, 10752]⟩
abbrev S1024x2048 : Shape := ⟨2, ![1024, 2048]⟩
abbrev S1x1x2048 : Shape := ⟨3, ![1, 1, 2048]⟩
abbrev S1x1536x2048 : Shape := ⟨3, ![1, 1536, 2048]⟩
abbrev S1024x1536 : Shape := ⟨2, ![1024, 1536]⟩
abbrev S16x2048 : Shape := ⟨2, ![16, 2048]⟩
abbrev S16 : Shape := ⟨1, ![16]⟩
abbrev S16x1 : Shape := ⟨2, ![16, 1]⟩
abbrev S1536x2048 : Shape := ⟨2, ![1536, 2048]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x12288, .f32⟩
  | .hbm, ⟨3, _⟩ => ⟨S2x10752x2048, .f32⟩
  | .hbm, ⟨4, _⟩ => ⟨S16384x2048, .f32⟩
  | .hbm, ⟨5, _⟩ => ⟨S_, .f32⟩
  | .hbm, ⟨6, _⟩ => ⟨S4x12288, .f32⟩
  | .hbm, ⟨7, _⟩ => ⟨S8x12288, .f32⟩
  | .hbm, ⟨8, _⟩ => ⟨S8x1x12288, .f32⟩
  | .hbm, ⟨9, _⟩ => ⟨S2x10752x2048, .bf16⟩
  | .hbm, ⟨10, _⟩ => ⟨S1x2048, .f32⟩
  | .hbm, ⟨11, _⟩ => ⟨S16384x10752, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1536x2048, .bf16⟩
  | .local _ .vmem, ⟨8, _⟩ => ⟨S1x1536x2048, .bf16⟩
  | .local _ .vmem, ⟨9, _⟩ => ⟨S1024x1536, .bf16⟩
  | .local _ .vmem, ⟨10, _⟩ => ⟨S1024x1536, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c64_i32 : BitVec 32 := 64#32
  let v9 : BitVec 32 := Scalar.addi c0_i32_7 c64_i32
  let c1_i32 : BitVec 32 := 1#32
  ⟨c0_i32_7, v9, c1_i32⟩
def k0_mult1 (k0_t1 : Fin k0_t1_loop.trips) : BitVec 32 :=
  let c0_i32_7 : BitVec 32 := 0#32
  let c1_i32 : BitVec 32 := 1#32
  let arg9 : BitVec 32 := Scf.iv c0_i32_7 c1_i32 k0_t1
  let c16_i32 : BitVec 32 := 16#32
  let v10 : BitVec 32 := Scalar.muli arg9 c16_i32
  v10
def k0_off1 (k0_t1 : Fin k0_t1_loop.trips) : Fin 2 → Nat :=
  let c0_i32_7 : BitVec 32 := 0#32
  let c1_i32 : BitVec 32 := 1#32
  let arg9 : BitVec 32 := Scf.iv c0_i32_7 c1_i32 k0_t1
  let c16_i32 : BitVec 32 := 16#32
  let v10 : BitVec 32 := Scalar.muli arg9 c16_i32
  let v11 : BitVec 32 := v10
  let v12 : Index := Scalar.indexCast v11
  let c0_9 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjReferenceIdeal.lean ====
abbrev S4x4096x2048 : Shape := ⟨3, ![4, 4096, 2048]⟩
abbrev S2048 : Shape := ⟨1, ![2048]⟩
abbrev S4x12288 : Shape := ⟨2, ![4, 12288]⟩
abbrev S2x10752x2048 : Shape := ⟨3, ![2, 10752, 2048]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S1x10752x2048 : Shape := ⟨3, ![1, 10752, 2048]⟩
abbrev S10752x2048 : Shape := ⟨2, ![10752, 2048]⟩
abbrev S2048x10752 : Shape := ⟨2, ![2048, 10752]⟩
abbrev S4x4096x10752 : Shape := ⟨3, ![4, 4096, 10752]⟩
abbrev S16384x10752 : Shape := ⟨2, ![16384, 10752]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x12288, .f32⟩
  | .hbm, ⟨3, _⟩ => ⟨S2x10752x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S4x1x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x1x2048, .f32⟩
  | .hbm, ⟨33, _⟩ => ⟨S4x4096x2048, .f32⟩
  | .hbm, ⟨34, _⟩ => ⟨S4x4096x2048, .f32⟩
  | .hbm, ⟨35, _⟩ => ⟨S1x10752x2048, .f32⟩
  | .hbm, ⟨36, _⟩ => ⟨S10752x2048, .f32⟩
  | .hbm, ⟨37, _⟩ => ⟨S2048x10752, .f32⟩
  | .hbm, ⟨38, _⟩ => ⟨S4x4096x10752, .f32⟩
  | .hbm, ⟨39, _⟩ => ⟨S16384x10752, .f32⟩
  | .hbm, ⟨40, _⟩ => ⟨S16384x10752, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Merge.lean ====
abbrev S4x4096x1024 : Shape := ⟨3, ![4, 4096, 1024]⟩
abbrev S4x4096x2048 : Shape := ⟨3, ![4, 4096, 2048]⟩
abbrev S4x4096x10560 : Shape := ⟨3, ![4, 4096, 10560]⟩
abbrev S2x6144 : Shape := ⟨2, ![2, 6144]⟩
abbrev S2x1024x2048 : Shape := ⟨3, ![2, 1024, 2048]⟩
abbrev S2x2048x2048 : Shape := ⟨3, ![2, 2048, 2048]⟩
abbrev S4x2048x1024 : Shape := ⟨3, ![4, 2048, 1024]⟩
abbrev S8192x1024 : Shape := ⟨2, ![8192, 1024]⟩
abbrev S16384x1024 : Shape := ⟨2, ![16384, 1024]⟩
abbrev S16384x2048 : Shape := ⟨2, ![16384, 2048]⟩
abbrev S_ : Shape := ⟨0, ![]⟩
abbrev S4x4096x192 : Shape := ⟨3, ![4, 4096, 192]⟩
abbrev S4x4096x3072 : Shape := ⟨3, ![4, 4096, 3072]⟩
abbrev S4x4096x576 : Shape := ⟨3, ![4, 4096, 576]⟩
abbrev S4x4096x768 : Shape := ⟨3, ![4, 4096, 768]⟩
abbrev S4x4096x6144 : Shape := ⟨3, ![4, 4096, 6144]⟩
abbrev S4x4096x10752 : Shape := ⟨3, ![4, 4096, 10752]⟩
abbrev S16384x10752 : Shape := ⟨2, ![16384, 10752]⟩
abbrev S2x1x6144 : Shape := ⟨3, ![2, 1, 6144]⟩
abbrev S1024x1024 : Shape := ⟨2, ![1024, 1024]⟩
abbrev S1024x2048 : Shape := ⟨2, ![1024, 2048]⟩
abbrev S1024x512 : Shape := ⟨2, ![1024, 512]⟩
abbrev S1x1x512 : Shape := ⟨3, ![1, 1, 512]⟩
abbrev S1x1024x512 : Shape := ⟨3, ![1, 1024, 512]⟩
abbrev S1x2048x512 : Shape := ⟨3, ![1, 2048, 512]⟩
abbrev S1x512 : Shape := ⟨2, ![1, 512]⟩
abbrev S2048x512 : Shape := ⟨2, ![2048, 512]⟩

abbrev nBuf : Space → Nat
  | .hbm => 32
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x2048, .f32⟩
  | .hbm, ⟨3, _⟩ => ⟨S4x4096x10560, .f32⟩
  | .hbm, ⟨4, _⟩ => ⟨S2x6144, .f32⟩
  | .hbm, ⟨5, _⟩ => ⟨S2x1024x2048, .f32⟩
  | .hbm, ⟨6, _⟩ => ⟨S2x1024x2048, .f32⟩
  | .hbm, ⟨7, _⟩ => ⟨S2x2048x2048, .f32⟩
  | .hbm, ⟨8, _⟩ => ⟨S4x2048x1024, .f32⟩
  | .hbm, ⟨9, _⟩ => ⟨S4x2048x1024, .f32⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S16384x1024, .f32⟩
  | .hbm, ⟨15, _⟩ => ⟨S16384x1024, .bf16⟩
  | .hbm, ⟨16, _⟩ => ⟨S16384x2048, .f32⟩
  | .hbm, ⟨17, _⟩ => ⟨S16384x2048, .bf16⟩
  | .hbm, ⟨18, _⟩ => ⟨S_, .f32⟩
  | .hbm, ⟨19, _⟩ => ⟨S4x4096x192, .f32⟩
  | .hbm, ⟨20, _⟩ => ⟨S4x4096x3072, .f32⟩
  | .hbm, ⟨21, _⟩ => ⟨S4x4096x576, .f32⟩
  | .hbm, ⟨22, _⟩ => ⟨S4x4096x768, .f32⟩
  | .hbm, ⟨23, _⟩ => ⟨S4x4096x6144, .f32⟩
  | .hbm, ⟨24, _⟩ => ⟨S4x4096x10752, .f32⟩
  | .hbm, ⟨25, _⟩ => ⟨S16384x10752, .f32⟩
  | .hbm, ⟨26, _⟩ => ⟨S16384x10752, .bf16⟩
  | .hbm, ⟨27, _⟩ => ⟨S2x1x6144, .f32⟩
  | .hbm, ⟨28, _⟩ => ⟨S2x1024x2048, .bf16⟩
  | .hbm, ⟨29, _⟩ => ⟨S2x1024x2048, .bf16⟩
  | .hbm, ⟨30, _⟩ => ⟨S2x2048x2048, .bf16⟩
  | .hbm, ⟨31, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x2048x512, .bf16⟩
  | .local _ .vmem, ⟨25, _⟩ => ⟨S1x2048x512, .bf16⟩
  | .local _ .vmem, ⟨26, _⟩ => ⟨S1024x512, .bf16⟩
  | .local _ .vmem, ⟨27, _⟩ => ⟨S1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c0_i32_11 : BitVec 32 := 0#32
  let c0_i32_12 : BitVec 32 := 0#32
  ![v29.toNat, c0_i32_11.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c2_i32_10 : BitVec 32 := 2#32
  let v28 : BitVec 32 := Scalar.subi v27 c2_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeReferenceIdeal.lean ====
abbrev S4x4096x1024 : Shape := ⟨3, ![4, 4096, 1024]⟩
abbrev S4x4096x2048 : Shape := ⟨3, ![4, 4096, 2048]⟩
abbrev S4x4096x10560 : Shape := ⟨3, ![4, 4096, 10560]⟩
abbrev S2x6144 : Shape := ⟨2, ![2, 6144]⟩
abbrev S2x1024x2048 : Shape := ⟨3, ![2, 1024, 2048]⟩
abbrev S2x2048x2048 : Shape := ⟨3, ![2, 2048, 2048]⟩
abbrev S4x4096x6144 : Shape := ⟨3, ![4, 4096, 6144]⟩
abbrev S1x6144 : Shape := ⟨2, ![1, 6144]⟩
abbrev S6144 : Shape := ⟨1, ![6144]⟩
abbrev S1x1x6144 : Shape := ⟨3, ![1, 1, 6144]⟩
abbrev S_ : Shape := ⟨0, ![]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x2048, .f32⟩
  | .hbm, ⟨3, _⟩ => ⟨S4x4096x10560, .f32⟩
  | .hbm, ⟨4, _⟩ => ⟨S2x6144, .f32⟩
  | .hbm, ⟨5, _⟩ => ⟨S2x1024x2048, .f32⟩
  | .hbm, ⟨6, _⟩ => ⟨S2x1024x2048, .f32⟩
  | .hbm, ⟨7, _⟩ => ⟨S2x2048x2048, .f32⟩
  | .hbm, ⟨8, _⟩ => ⟨S4x4096x6144, .f32⟩
  | .hbm, ⟨9, _⟩ => ⟨S1x6144, .f32⟩
  | .hbm, ⟨10, _⟩ => ⟨S6144, .f32⟩
  | .hbm, ⟨11, _⟩ => ⟨S1x1x6144, .f32⟩
  | .hbm, ⟨12, _⟩ => ⟨S4x4096x6144, .f32⟩
  | .hbm, ⟨13, _⟩ => ⟨S4x4096x6144, .f32⟩
  | .hbm, ⟨14, _⟩ => ⟨S4x4096x6144, .f32⟩
  | .hbm, ⟨15, _⟩ => ⟨S4x4096x6144, .f32⟩
  | .hbm, ⟨16, _⟩ => ⟨S_, .f32⟩
  | .hbm, ⟨17, _⟩ => ⟨S4x4096x6144, .f32⟩
  | .hbm, ⟨18, _⟩ => ⟨S4x4096x6144, .f32⟩
  | .hbm, ⟨19, _⟩ => ⟨S_, .f32⟩
  | .hbm, ⟨20, _⟩ => ⟨S4x4096x6144, .f32⟩
  | .hbm, ⟨21, _⟩ => ⟨S4x4096x6144, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S1x1024x2048, .f32⟩
  | .hbm, ⟨26, _⟩ => ⟨S1024x2048, .f32⟩
  | .hbm, ⟨27, _⟩ => ⟨S4x4096x2048, .f32⟩
  | .hbm, ⟨28, _⟩ => ⟨S4x4096x2048, .f32⟩
  | .hbm, ⟨29, _⟩ => ⟨S1x1024x2048, .f32⟩
  | .hbm, ⟨30, _⟩ => ⟨S1024x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S1x2048x2048, .f32⟩
  | .hbm, ⟨35, _⟩ => ⟨S2048x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S16384x2048, .f32⟩
  | .hbm, ⟨40, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Out.lean ====
abbrev S4x4096x2048 : Shape := ⟨3, ![4, 4096, 2048]⟩
abbrev S4x12288 : Shape := ⟨2, ![4, 12288]⟩
abbrev S2x2048x2048 : Shape := ⟨3, ![2, 2048, 2048]⟩
abbrev S16384x2048 : Shape := ⟨2, ![16384, 2048]⟩
abbrev S_ : Shape := ⟨0, ![]⟩
abbrev S8x12288 : Shape := ⟨2, ![8, 12288]⟩
abbrev S8x1x12288 : Shape := ⟨3, ![8, 1, 12288]⟩
abbrev S2048x2048 : Shape := ⟨2, ![2048, 2048]⟩
abbrev S1x2048x512 : Shape := ⟨3, ![1, 2048, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 13
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x12288, .f32⟩
  | .hbm, ⟨3, _⟩ => ⟨S2x2048x2048, .f32⟩
  | .hbm, ⟨4, _⟩ => ⟨S16384x2048, .f32⟩
  | .hbm, ⟨5, _⟩ => ⟨S16384x2048, .bf16⟩
  | .hbm, ⟨6, _⟩ => ⟨S2x2048x2048, .bf16⟩
  | .hbm, ⟨7, _⟩ => ⟨S16384x2048, .f32⟩
  | .hbm, ⟨8, _⟩ => ⟨S_, .f32⟩
  | .hbm, ⟨9, _⟩ => ⟨S4x12288, .f32⟩
  | .hbm, ⟨10, _⟩ => ⟨S8x12288, .f32⟩
  | .hbm, ⟨11, _⟩ => ⟨S8x1x12288, .f32⟩
  | .hbm, ⟨12, _⟩ => ⟨S16384x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .f32⟩
  | .local _ .vmem, ⟨5, _⟩ => ⟨S2048x512, .f32⟩
  | .local _ .vmem, ⟨6, _⟩ => ⟨S1x1x512, .f32⟩
  | .local _ .vmem, ⟨7, _⟩ => ⟨S1x1x512, .f32⟩
  | .local _ .vmem, ⟨8, _⟩ => ⟨S2048x512, .f32⟩
  | .local _ .vmem, ⟨9, _⟩ => ⟨S2048x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.addi c8_i32 arg1
  let c0_i32_4 : BitVec 32 := 0#32
  let c0_i32_5 : BitVec 32 := 0#32
  ![v17.toNat, c0_i32_4.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S4x4096x2048 : Shape := ⟨3, ![4, 4096, 2048]⟩
abbrev S4x12288 : Shape := ⟨2, ![4, 12288]⟩
abbrev S2x2048x2048 : Shape := ⟨3, ![2, 2048, 2048]⟩
abbrev S4x2048 : Shape := ⟨2, ![4, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x12288, .f32⟩
  | .hbm, ⟨3, _⟩ => ⟨S2x2048x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x1x2048, .f32⟩
  | .hbm, ⟨11, _⟩ => ⟨S1x2048x2048, .f32⟩
  | .hbm, ⟨12, _⟩ => ⟨S2048x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Attn.Blocks.lean ====
/- What the attention kernel's body computes, as functions of the blocks it reads: a block of 256 queries is scored against
   17 chunks of 256 keys, the scores are kept in a scratch buffer, the rows' maxima are taken, and the chunks are read
   back, half by half, into a sum of weights and a sum of weighted values. -/
module

public import proofs.«01_k».proof.Proof.Gen.KernelIdeal
public import Idealize.ShloMosaic.Lib.Pipeline.ValueKit

@[expose] public section

set_option maxRecDepth 16384

noncomputable section

namespace Cert.KernelIdeal.Attn

open Idealize.ShloMosaic Idealize.SL.Sem
open Cert.KernelIdeal Cert.KernelIdeal.Gen
variable {F : FTy → Type} [FloatOps F]

theorem kt_inb (n : Fin 17) : ∀ a, (![0, 256 * n.val] : Fin 2 → Nat) a + S256x256.size a ≤ S256x4352.size a := by
  intro a; fin_cases a <;> simp [S256x256, S256x4352] <;> omega

theorem s_inb (r : Fin 8) (n : Fin 17) :
    ∀ a, (![256 * r.val, 256 * n.val] : Fin 2 → Nat) a + S256x256.size a ≤ S2048x4352.size a := by
  intro a; fin_cases a <;> simp [S256x256, S2048x4352] <;> omega

theorem half_inb (r : Fin 8) (n : Fin 17) (h : Fin 2) :
    ∀ a, (![256 * r.val, 256 * n.val + 128 * h.val] : Fin 2 → Nat) a + S256x128.size a ≤ S2048x4352.size a := by
  intro a; fin_cases a <;> simp [S256x128, S2048x4352] <;> omega

theorem q_inb (r : Fin 8) : ∀ a, (![256 * r.val, 0] : Fin 2 → Nat) a + S256x256.size a ≤ S2048x256.size a := by
  intro a; fin_cases a <;> simp [S256x256, S2048x256] <;> omega

theorem o_inb (r : Fin 8) : ∀ a, (![256 * r.val, 0] : Fin 2 → Nat) a + S256x128.size a ≤ S2048x128.size a := by
  intro a; fin_cases a <;> simp [S256x128, S2048x128] <;> omega

theorem v_inb (n : Fin 16) : ∀ a, (![256 * n.val, 0] : Fin 2 → Nat) a + S256x128.size a ≤ S4096x128.size a := by
  intro a; fin_cases a <;> simp [S256x128, S4096x128] <;> omega

/-- Chunk `n` of the transposed keys. -/
def ktR (n : Fin 17) : Rect S256x4352 := Rect.unit (s := S256x4352) ![0, 256 * n.val] S256x256.size (kt_inb n)
/-- Row block `r`, chunk `n` of the scores. -/
def sR (r : Fin 8) (n : Fin 17) : Rect S2048x4352 := Rect.unit (s := S2048x4352) ![256 * r.val, 256 * n.val] S256x256.size (s_inb r n)
/-- Its half `h`. -/
def halfR (r : Fin 8) (n : Fin 17) (h : Fin 2) : Rect S2048x4352 :=
  Rect.unit (s := S2048x4352) ![256 * r.val, 256 * n.val + 128 * h.val] S256x128.size (half_inb r n h)
/-- Row block `r` of the queries. -/
def qR (r : Fin 8) : Rect S2048x256 := Rect.unit (s := S2048x256) ![256 * r.val, 0] S256x256.size (q_inb r)
/-- Row block `r` of the result. -/
def oR (r : Fin 8) : Rect S2048x128 := Rect.unit (s := S2048x128) ![256 * r.val, 0] S256x128.size (o_inb r)
/-- Chunk `n` of the latent rows. -/
def vR (n : Fin 16) : Rect S4096x128 := Rect.unit (s := S4096x128) ![256 * n.val, 0] S256x128.size (v_inb n)
/-- The context rows. -/
def cR : Rect S256x128 := Rect.unit (s := S256x128) ![0, 0] S256x128.size inb_S256x128_S256x128_0_0

/-- The scores of a block of queries against one chunk of keys. -/
def score (x : Vec F S256x256 .bf16) (k : Vec F S256x256 .bf16) : FVec F S256x256 .f32 :=
  matmul dot_S256x256_S256x256_S256x256_1_0_0_1_n_n none (shapeCast S256x256 x shapeCasts_S256x256_S256x256) k (constant S256x256 .f32 0x00000000#32)

/-- The larger of the two halves of a chunk, lane by lane. -/
def half (t : FVec F S256x256 .f32) : FVec F S256x128 .f32 :=
  maximumf (extractStridedSlice S256x128 ![0, 0] t slices_S256x256_o0_0_S256x128)
    (extractStridedSlice S256x128 ![0, 128] t slices_S256x256_o0_128_S256x128)

/-- The running maximum after chunk `n`. -/
def running (x : Vec F S256x256 .bf16) (k : Fin 17 → Vec F S256x256 .bf16) : (n : Nat) → n < 17 → FVec F S256x128 .f32
  | 0, h => half (score x (k ⟨0, h⟩))
  | n + 1, h => maximumf (running x k n (Nat.lt_of_succ_lt h)) (half (score x (k ⟨n + 1, h⟩)))

/-- A row's maximum, on every lane. -/
def rowMax (mx : FVec F S256x128 .f32) : FVec F S256x128 .f32 :=
  broadcastTo S256x128 (shapeCast S256x1 (shapeCast S256x1 (multiReduction .maximumf [1] S256 mx 0xFF800000#32 reduces_S256x128_S256 (.inl rfl) rfl) shapeCasts_S256_S256x1) shapeCasts_S256x1_S256x1) broadcasts_S256x1_S256x128

/-- The weights of one half of a chunk. -/
def wts (mb : FVec F S256x128 .f32) (t : Vec F S256x128 .f32) : FVec F S256x128 .f32 := exp2 (subf t mb)

/-- The weights of a chunk against its values. -/
def mix (p0 p1 : FVec F S256x128 .f32) (w : Vec F S256x128 .bf16) : FVec F S256x128 .f32 :=
  matmul dot_S256x256_S256x128_S256x128_1_0_0_1_n_n none
    (truncf .bf16 (concatenate S256x256 1 [⟨S256x128, p0⟩, ⟨S256x128, p1⟩] concatenates_S256x128_S256x128_S256x256_d1) bitsLt_bf16_f32)
    (shapeCast S256x128 w shapeCasts_S256x128_S256x128) (constant S256x128 .f32 0x00000000#32)

/-- The sum of the weights over the first `n` chunks, lane by lane: `t` the scores kept, half by half, `mb` the maxima. -/
def mass (mb : FVec F S256x128 .f32) (t : Fin 17 → Fin 2 → Vec F S256x128 .f32) : (n : Nat) → n ≤ 17 → FVec F S256x128 .f32
  | 0, _ => broadcast S256x128 (Scalar.ofBits .f32 0x00000000#32)
  | n + 1, h => addf (mass mb t n (Nat.le_of_succ_le h)) (addf (wts mb (t ⟨n, h⟩ 0)) (wts mb (t ⟨n, h⟩ 1)))

/-- The sum of the weighted values over the first `n` chunks. -/
def mixed (mb : FVec F S256x128 .f32) (t : Fin 17 → Fin 2 → Vec F S256x128 .f32) (w : Fin 17 → Vec F S256x128 .bf16) :
    (n : Nat) → n ≤ 17 → FVec F S256x128 .f32
  | 0, _ => broadcast S256x128 (Scalar.ofBits .f32 0x00000000#32)
  | n + 1, h => addf (mixed mb t w n (Nat.le_of_succ_le h)) (mix (wts mb (t ⟨n, h⟩ 0)) (wts mb (t ⟨n, h⟩ 1)) (w ⟨n, h⟩))

/-- The weighted values over the sum of the weights. -/
def quot (a b : FVec F S256x128 .f32) : FVec F S256x128 .bf16 :=
  truncf .bf16 (divf b (broadcastTo S256x128 (shapeCast S256x1 (multiReduction .add [1] S256 a 0x00000000#32 reduces_S256x128_S256 (.inl rfl) rfl) shapeCasts_S256_S256x1) broadcasts_S256x1_S256x128)) bitsLt_bf16_f32

/-- The result of one block of queries, given its scores as they are read back. -/
def block (x : Vec F S256x256 .bf16) (k : Fin 17 → Vec F S256x256 .bf16) (t : Fin 17 → Fin 2 → Vec F S256x128 .f32)
    (w : Fin 17 → Vec F S256x128 .bf16) : FVec F S256x128 .bf16 :=
  quot (mass (rowMax (running x k 16 (by omega))) t 17 (le_refl _)) (mixed (rowMax (running x k 16 (by omega))) t w 17 (le_refl _))

/-- The scores kept of the chunks before chunk `n` of row block `r`, the last first. -/
def chunks (x : Vec F S256x256 .bf16) (k : Fin 17 → Vec F S256x256 .bf16) (r : Fin 8) (L : List (View.Piece (Elt F) S2048x4352 .f32)) :
    (n : Nat) → n ≤ 17 → List (View.Piece (Elt F) S2048x4352 .f32)
  | 0, _ => L
  | n + 1, h => ⟨sR r ⟨n, h⟩, shapeCast S256x256 (score x (k ⟨n, h⟩)) shapeCasts_S256x256_S256x256⟩ :: chunks x k r L n (Nat.le_of_succ_le h)

/-- The scores kept of the row blocks before block `r`. -/
def kept (x : Fin 8 → Vec F S256x256 .bf16) (k : Fin 17 → Vec F S256x256 .bf16) :
    (r : Nat) → r ≤ 8 → List (View.Piece (Elt F) S2048x4352 .f32)
  | 0, _ => []
  | r + 1, h => chunks (x ⟨r, h⟩) k ⟨r, h⟩ (kept x k r (Nat.le_of_succ_le h)) 17 (le_refl _)

/-- The blocks the body stores into the result, the last first. -/
def stored (s : Memref sig .tc .vmem S2048x4352 .f32) (x : Fin 8 → Vec F S256x256 .bf16) (k : Fin 17 → Vec F S256x256 .bf16)
    (w : Fin 17 → Vec F S256x128 .bf16) : (r : Nat) → r ≤ 8 → List (View.Piece (Elt F) S2048x128 .bf16)
  | 0, _ => []
  | r + 1, h => ⟨oR ⟨r, h⟩, block (x ⟨r, h⟩) k
      (fun n i => s.view.readCov (kept x k (r + 1) h) (halfR ⟨r, h⟩ n i).toLoadRect) w⟩ :: stored s x k w r (Nat.le_of_succ_le h)

/-- The values of chunk `n`: the latent rows' sixteen chunks, then the context rows. -/
def vals (v : Memref sig .tc .vmem S4096x128 .bf16) (hv : v.IsWhole) (vc : Memref sig .tc .vmem S256x128 .bf16) (hvc : vc.IsWhole)
    (x3 : Vec F S4096x128 .bf16) (x6 : Vec F S256x128 .bf16) (n : Fin 17) : Vec F S256x128 .bf16 :=
  if h : n.val < 16 then View.readAt (Elt F) v.view (vR ⟨n.val, h⟩).toLoadRect (hv.unread x3)
  else View.readAt (Elt F) vc.view cR.toLoadRect (hvc.unread x6)

end Cert.KernelIdeal.Attn
end
-- ==== Proof.Attn.RunA.lean ====
/- The blocks the run found at an even point are the body's, over the keys the point itself transposes first. -/
module

public import proofs.«01_k».proof.Proof.Gen.KernelIdeal.Frame.RunA
public import proofs.«01_k».proof.Proof.Attn.Blocks

@[expose] public section

set_option maxRecDepth 16384

noncomputable section

namespace Cert.KernelIdeal.Attn

open Idealize.ShloMosaic Idealize.SL.Sem
open Cert.KernelIdeal Cert.KernelIdeal.Gen
variable {F : FTy → Type} [FloatOps F]

/-- The pieces stored into the result, over the transposed keys read back. -/
theorem stored_A (c : Dev nD) (i : grid0.Coords) (arg3 : Memref sig .tc .vmem S2048x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S256x4352 .bf16) (harg11 : arg11.IsWhole) (arg12 : Memref sig .tc .vmem S2048x4352 .f32) (harg12 : arg12.IsWhole) (hc0 : cond0_0 i)
    (x0 : Vec F S2048x256 .bf16) (x1 x2 x3 : Vec F S4096x128 .bf16) (x4 x5 x6 : Vec F S256x128 .bf16) :
    (kernelRun0_A c i arg3 harg3 arg4 harg4 arg5 harg5 arg6 harg6 arg7 harg7 arg8 harg8 arg9 harg9 arg10 harg10 arg11 harg11 arg12 harg12 hc0 x0 x1 x2 x3 x4 x5 x6).1 =
      stored arg12 (fun r => View.readAt (Elt F) arg3.view (qR r).toLoadRect (harg3.unread x0))
        (fun n => arg11.view.readCov (kernelRun0_A c i arg3 harg3 arg4 harg4 arg5 harg5 arg6 harg6 arg7 harg7 arg8 harg8 arg9 harg9 arg10 harg10 arg11 harg11 arg12 harg12 hc0 x0 x1 x2 x3 x4 x5 x6).2.1 (ktR n).toLoadRect)
        (vals arg6 harg6 arg9 harg9 x3 x6) 8 (le_refl _) := by
  sl_kernel_rfl

end Cert.KernelIdeal.Attn
end
-- ==== Proof.Attn.RunB.lean ====
/- The blocks the run found at an odd point are the body's, over the keys the point before left transposed. -/
module

public import proofs.«01_k».proof.Proof.Gen.KernelIdeal.Frame.RunB
public import proofs.«01_k».proof.Proof.Attn.Blocks

@[expose] public section

set_option maxRecDepth 16384

noncomputable section

namespace Cert.KernelIdeal.Attn

open Idealize.ShloMosaic Idealize.SL.Sem
open Cert.KernelIdeal Cert.KernelIdeal.Gen
variable {F : FTy → Type} [FloatOps F]

/-- The pieces stored into the result. -/
theorem stored_B (c : Dev nD) (i : grid0.Coords) (arg3 : Memref sig .tc .vmem S2048x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S256x4352 .bf16) (harg11 : arg11.IsWhole) (arg12 : Memref sig .tc .vmem S2048x4352 .f32) (harg12 : arg12.IsWhole) (hc0 : ¬cond0_0 i)
    (x0 : Vec F S2048x256 .bf16) (x1 x2 x3 : Vec F S4096x128 .bf16) (x4 x5 x6 : Vec F S256x128 .bf16) (xs0 : Vec F S256x4352 .bf16) :
    (kernelRun0_B c i arg3 harg3 arg4 harg4 arg5 harg5 arg6 harg6 arg7 harg7 arg8 harg8 arg9 harg9 arg10 harg10 arg11 harg11 arg12 harg12 hc0 x0 x1 x2 x3 x4 x5 x6 xs0).1 =
      stored arg12 (fun r => View.readAt (Elt F) arg3.view (qR r).toLoadRect (harg3.unread x0))
        (fun n => View.readAt (Elt F) arg11.view (ktR n).toLoadRect (harg11.unread xs0)) (vals arg6 harg6 arg9 harg9 x3 x6) 8 (le_refl _) := by
  sl_kernel_rfl

end Cert.KernelIdeal.Attn
end
-- ==== Proof.Attn.Math.lean ====
/- Facts about extended reals that the attention claim rests on: a softmax with base two over scores scaled by 1/ln 2 is the softmax. -/
module

public import Idealize.ShloMosaic.Init
public import Idealize.ShloMosaic.PureOps.Ideal

@[expose] public section

noncomputable section

namespace Cert.Attn

open Idealize.ShloMosaic

/-- Multiplying by a positive real distributes over any sum of two extended reals. -/
theorem add_mul_coe (a b : EReal) {r : ℝ} (hr : 0 < r) : (a + b) * (r : EReal) = a * r + b * r := by
  induction a using EReal.rec <;> induction b using EReal.rec <;>
    simp [EReal.top_mul_coe_of_pos hr, EReal.bot_mul_coe_of_pos hr, ← EReal.coe_mul, ← EReal.coe_add, add_mul]

theorem sum_mul_coe {ι : Type} (s : Finset ι) (f : ι → EReal) {r : ℝ} (hr : 0 < r) :
    (∑ i ∈ s, f i) * (r : EReal) = ∑ i ∈ s, f i * r := by
  classical
  induction s using Finset.induction_on with
  | empty => simp
  | insert a s ha ih => rw [Finset.sum_insert ha, Finset.sum_insert ha, add_mul_coe _ _ hr, ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The supremum of finitely many reals is one of them. -/
theorem iSup_coe {ι : Type} [Finite ι] [Nonempty ι] (g : ι → ℝ) : ∃ k, (∀ j, g j ≤ g k) ∧ ⨆ j, (g j : EReal) = (g k : EReal) := by
  obtain ⟨k, hk⟩ := Finite.exists_max g
  exact ⟨k, hk, le_antisymm (iSup_le fun j => EReal.coe_le_coe_iff.2 (hk j)) (le_iSup (fun j => (g j : EReal)) k)⟩

theorem two_rpow_div_log (x : ℝ) : (2 : ℝ) ^ (x / Real.log 2) = Real.exp x := by
  have h : Real.log 2 ≠ 0 := (Real.log_pos one_lt_two).ne'
  rw [Real.rpow_def_of_pos two_pos, mul_div_cancel₀ _ h]

/-- Softmax attention over finite scores, with the weights in base two and the division last, is
    softmax attention with the weights in base e and the division first. -/
theorem attend_eq {ι : Type} [Fintype ι] [Nonempty ι] (g : ι → ℝ) (v S T : ι → EReal)
    (hS : ∀ j, S j = ((g j / Real.log 2 : ℝ) : EReal)) (hT : ∀ j, T j = ((g j : ℝ) : EReal)) :
    Ideal.div (∑ j, Ideal.exp2 (S j - ⨆ k, S k) * v j) (∑ j, Ideal.exp2 (S j - ⨆ k, S k))
      = ∑ j, v j * Ideal.div (Ideal.exp (T j - ⨆ k, T k)) (∑ i, Ideal.exp (T i - ⨆ k, T k)) := by
  have hl : 0 < Real.log 2 := Real.log_pos one_lt_two
  obtain ⟨k, hk, hT'⟩ := iSup_coe g
  have hTs : ⨆ j, T j = (g k : EReal) := by simp only [hT]; exact hT'
  have hSs : ⨆ j, S j = ((g k / Real.log 2 : ℝ) : EReal) := by
    simp only [hS]
    exact le_antisymm (iSup_le fun j => EReal.coe_le_coe_iff.2 (div_le_div_of_nonneg_right (hk j) hl.le))
      (le_iSup (fun j => ((g j / Real.log 2 : ℝ) : EReal)) k)
  have e2 : ∀ j, Ideal.exp2 (S j - ⨆ k, S k) = (Real.exp (g j - g k) : EReal) := fun j => by
    rw [hSs, hS, ← EReal.coe_sub, Ideal.exp2_coe, ← sub_div, ← two_rpow_div_log]; rfl
  have e1 : ∀ j, Ideal.exp (T j - ⨆ k, T k) = (Real.exp (g j - g k) : EReal) := fun j => by
    rw [hTs, hT, ← EReal.coe_sub, Ideal.exp_coe]
  simp only [e1, e2, ← coe_sum]
  have hL : 0 < ∑ j, Real.exp (g j - g k) := Finset.sum_pos (fun j _ => Real.exp_pos _) Finset.univ_nonempty
  rw [Ideal.div_coe hL.ne', sum_mul_coe _ _ (one_div_pos.2 hL)]
  refine Finset.sum_congr rfl fun j _ => ?_
  rw [Ideal.div_coe hL.ne', mul_right_comm, mul_comm]

end Cert.Attn
end
-- ==== Proof.Attn.Pure.lean ====
/- The body's functions at an index, over the extended reals. -/
module

public import proofs.«01_k».proof.Proof.Attn.Blocks
public import proofs.«01_k».proof.Proof.Attn.Math
public import Idealize.ShloMosaic.Lib.Pointwise

@[expose] public section

set_option maxRecDepth 16384

noncomputable section

namespace Cert.KernelIdeal.Attn

open Idealize.ShloMosaic Idealize.SL.Sem
open Cert.KernelIdeal Cert.KernelIdeal.Gen

theorem score_apply (x k : FVec Ideal S256x256 .bf16) (a b : Fin 256) :
    score (F := Ideal) x k (ix2 a b) = ∑ l : Fin 256, x (ix2 a l) * k (ix2 l b) := by
  pointwise [score]

theorem half_apply (t : FVec Ideal S256x256 .f32) (a : Fin 256) (b : Fin 128) :
    half t (ix2 a b) = max (t (ix2 a ⟨b.val, by omega⟩)) (t (ix2 a ⟨128 + b.val, by omega⟩)) := by
  pointwise [half]

theorem rowMax_apply (mx : FVec Ideal S256x128 .f32) (a : Fin 256) (b : Fin 128) :
    rowMax mx (ix2 a b) = Finset.univ.fold max ⊥ fun j : Fin 128 => mx (ix2 a j) := by
  pointwise [rowMax]
  simp [Ideal.ofBits, Ideal.ieee]

theorem mix_apply (p0 p1 : FVec Ideal S256x128 .f32) (w : FVec Ideal S256x128 .bf16) (a : Fin 256) (d : Fin 128) :
    mix (F := Ideal) p0 p1 w (ix2 a d) = (∑ k : Fin 128, p0 (ix2 a k) * w (ix2 ⟨k.val, by omega⟩ d))
      + ∑ k : Fin 128, p1 (ix2 a k) * w (ix2 ⟨128 + k.val, by omega⟩ d) := by
  pointwise [mix]

theorem wts_apply (mb t : FVec Ideal S256x128 .f32) (a : Fin 256) (b : Fin 128) :
    wts (F := Ideal) mb t (ix2 a b) = Ideal.exp2 (t (ix2 a b) - mb (ix2 a b)) := by
  pointwise [wts]
  rfl

theorem quot_apply (a b : FVec Ideal S256x128 .f32) (i : Fin 256) (d : Fin 128) :
    quot a b (ix2 i d) = Ideal.div (b (ix2 i d)) (∑ j : Fin 128, a (ix2 i j)) := by
  pointwise [quot]

/-- Lane `b` of half `h` of a chunk. -/
def lane (h : Fin 2) (b : Fin 128) : Fin 256 := ⟨128 * h.val + b.val, by omega⟩

theorem exists_lane (j : Fin 256) : ∃ h b, lane h b = j :=
  ⟨⟨j.val / 128, by omega⟩, ⟨j.val % 128, by omega⟩, Fin.ext (Nat.div_add_mod _ _)⟩

theorem sum_lane (f : Fin 256 → EReal) : ∑ b : Fin 128, (f (lane 0 b) + f (lane 1 b)) = ∑ j, f j := by
  rw [Finset.sum_add_distrib, Fin.sum_univ_two_halves 128 128 rfl f]
  rfl

theorem running_le (x : FVec Ideal S256x256 .bf16) (k : Fin 17 → FVec Ideal S256x256 .bf16) (a : Fin 256) (b : Fin 128) (c : EReal) :
    ∀ (n : Nat) (h : n < 17), running (F := Ideal) x k n h (ix2 a b) ≤ c ↔
      ∀ i : Fin 17, i.val ≤ n → ∀ e, score (F := Ideal) x (k i) (ix2 a (lane e b)) ≤ c := by
  have hh : ∀ i : Fin 17, half (score (F := Ideal) x (k i)) (ix2 a b) ≤ c ↔ ∀ e, score (F := Ideal) x (k i) (ix2 a (lane e b)) ≤ c := fun i => by
    rw [half_apply, max_le_iff, Fin.forall_fin_two]
    simp only [lane, Fin.val_zero, Fin.val_one, Nat.mul_zero, Nat.zero_add, Nat.mul_one]
  intro n
  induction n with
  | zero =>
    intro h
    rw [running, hh]
    exact ⟨fun H i hi => (Fin.ext (Nat.le_zero.1 hi) : i = ⟨0, h⟩) ▸ H, fun H => H ⟨0, h⟩ (le_refl _)⟩
  | succ n ih =>
    intro h
    rw [running]
    show max (running (F := Ideal) x k n _ (ix2 a b)) (half (score (F := Ideal) x (k ⟨n + 1, h⟩)) (ix2 a b)) ≤ c ↔ _
    rw [max_le_iff, ih, hh]
    constructor
    · rintro ⟨H, H'⟩ i hi
      rcases Nat.lt_or_ge n i.val with h1 | h1
      · exact (Fin.ext (Nat.le_antisymm hi h1) : i = ⟨n + 1, h⟩) ▸ H'
      · exact H i h1
    · exact fun H => ⟨fun i hi => H i (by omega), H ⟨n + 1, h⟩ (le_refl _)⟩

/-- A row's maximum is its largest score over every key. -/
theorem rowMax_running (x : FVec Ideal S256x256 .bf16) (k : Fin 17 → FVec Ideal S256x256 .bf16) (a : Fin 256) (b : Fin 128) :
    rowMax (running (F := Ideal) x k 16 (by omega)) (ix2 a b) = ⨆ p : Fin 17 × Fin 256, score (F := Ideal) x (k p.1) (ix2 a p.2) := by
  rw [rowMax_apply]
  refine eq_of_forall_ge_iff fun c => ?_
  rw [Finset.fold_max_le, iSup_le_iff]
  constructor
  · rintro ⟨-, H⟩ ⟨i, j⟩
    obtain ⟨e, b, rfl⟩ := exists_lane j
    exact (running_le x k a b c 16 (by omega)).1 (H b (Finset.mem_univ _)) i (by omega) e
  · exact fun H => ⟨bot_le, fun b _ => (running_le x k a b c 16 (by omega)).2 fun i _ e => H (i, lane e b)⟩

section sums
variable (mb : FVec Ideal S256x128 .f32) (t : Fin 17 → Fin 2 → FVec Ideal S256x128 .f32) (w : Fin 17 → FVec Ideal S256x128 .bf16)
  (a : Fin 256) (M : EReal) (S : Fin 17 → Fin 256 → EReal)
  (hM : ∀ b, mb (ix2 a b) = M) (hS : ∀ n e b, t n e (ix2 a b) = S n (lane e b))

include hM hS in
theorem mass_sum : ∀ (n : Nat) (h : n ≤ 17), ∑ b : Fin 128, mass (F := Ideal) mb t n h (ix2 a b)
    = ∑ i : Fin n, ∑ j, Ideal.exp2 (S (i.castLE h) j - M) := by
  intro n
  induction n with
  | zero =>
    intro h
    simp only [Finset.univ_eq_empty, Finset.sum_empty]
    refine Finset.sum_eq_zero fun b _ => ?_
    pointwise [mass]
  | succ n ih =>
    intro h
    rw [Fin.sum_univ_castSucc (n := n), ← sum_lane (fun j => Ideal.exp2 (S ((Fin.last n).castLE h) j - M))]
    have e : ∀ b : Fin 128, mass (F := Ideal) mb t (n + 1) h (ix2 a b) = mass (F := Ideal) mb t n (Nat.le_of_succ_le h) (ix2 a b)
        + (Ideal.exp2 (S ⟨n, h⟩ (lane 0 b) - M) + Ideal.exp2 (S ⟨n, h⟩ (lane 1 b) - M)) := fun b => by
      rw [mass]
      show _ + (wts (F := Ideal) mb (t ⟨n, h⟩ 0) (ix2 a b) + wts (F := Ideal) mb (t ⟨n, h⟩ 1) (ix2 a b)) = _
      rw [wts_apply, wts_apply, hM, hS, hS]
    rw [Finset.sum_congr rfl fun b _ => e b, Finset.sum_add_distrib, ih]
    rfl

include hM hS in
theorem mixed_sum (d : Fin 128) : ∀ (n : Nat) (h : n ≤ 17), mixed (F := Ideal) mb t w n h (ix2 a d)
    = ∑ i : Fin n, ∑ j, Ideal.exp2 (S (i.castLE h) j - M) * w (i.castLE h) (ix2 j d) := by
  intro n
  induction n with
  | zero => intro h; pointwise [mixed]; simp
  | succ n ih =>
    intro h
    rw [Fin.sum_univ_castSucc (n := n), mixed]
    show mixed (F := Ideal) mb t w n _ (ix2 a d) + mix (F := Ideal) _ _ _ (ix2 a d) = _
    rw [ih, mix_apply]
    refine congrArg₂ (· + ·) rfl ?_
    rw [← sum_lane, Finset.sum_add_distrib]
    refine congrArg₂ (· + ·) ?_ ?_ <;> refine Finset.sum_congr rfl fun b _ => ?_ <;> rw [wts_apply, hM, hS] <;>
      simp only [lane, Fin.val_zero, Fin.val_one, Nat.mul_zero, Nat.zero_add, Nat.mul_one] <;> rfl
end sums

/-- A block of the result: the softmax, with base two, of the block's scores against the values. -/
theorem block_apply (x : FVec Ideal S256x256 .bf16) (k : Fin 17 → FVec Ideal S256x256 .bf16) (t : Fin 17 → Fin 2 → FVec Ideal S256x128 .f32)
    (w : Fin 17 → FVec Ideal S256x128 .bf16) (a : Fin 256) (d : Fin 128)
    (ht : ∀ n e b, t n e (ix2 a b) = score (F := Ideal) x (k n) (ix2 a (lane e b))) :
    block (F := Ideal) x k t w (ix2 a d) =
      Ideal.div (∑ p : Fin 17 × Fin 256, Ideal.exp2 (score (F := Ideal) x (k p.1) (ix2 a p.2)
          - ⨆ p : Fin 17 × Fin 256, score (F := Ideal) x (k p.1) (ix2 a p.2)) * w p.1 (ix2 p.2 d))
        (∑ p : Fin 17 × Fin 256, Ideal.exp2 (score (F := Ideal) x (k p.1) (ix2 a p.2)
          - ⨆ p : Fin 17 × Fin 256, score (F := Ideal) x (k p.1) (ix2 a p.2))) := by
  rw [block, quot_apply, mass_sum _ t a _ (fun n j => score (F := Ideal) x (k n) (ix2 a j)) (rowMax_running x k a) ht,
    mixed_sum _ t w a _ (fun n j => score (F := Ideal) x (k n) (ix2 a j)) (rowMax_running x k a) ht,
    Fintype.sum_prod_type, Fintype.sum_prod_type]
  rfl

end Cert.KernelIdeal.Attn
end
-- ==== Proof.Attn.Kept.lean ====
/- What the scratch buffers hold when they are read back: the scores of a block of queries, and the transposed keys. -/
module

public import proofs.«01_k».proof.Proof.Attn.Pure

@[expose] public section

set_option maxRecDepth 16384

noncomputable section

namespace Cert.KernelIdeal.Attn

open Idealize.ShloMosaic Idealize.SL.Sem
open Cert.KernelIdeal Cert.KernelIdeal.Gen
variable {F : FTy → Type} [FloatOps F]

/-- The block of 256 a position lies in. -/
def blk {N : Nat} (M : Nat) (h : N = 256 * M) (i : Fin N) : Fin M := ⟨i.val / 256, by omega⟩
/-- Its position within the block. -/
def pos {N : Nat} (i : Fin N) : Fin 256 := ⟨i.val % 256, by omega⟩

theorem blk_at {N M : Nat} (h : N = 256 * M) (r : Fin M) (a : Fin 256) (i : Fin N) (hi : i.val = 256 * r.val + a.val) : blk M h i = r :=
  Fin.ext (by simp only [blk]; omega)

theorem pos_at {N : Nat} (r : Nat) (a : Fin 256) (i : Fin N) (hi : i.val = 256 * r + a.val) : pos i = a :=
  Fin.ext (by simp only [pos]; omega)

/-- A position of a block, placed. -/
theorem unit_val {s : Shape} {off size : Fin s.rank → Nat} (inb : ∀ a, off a + size a ≤ s.size a) (a : Fin s.rank)
    (j : (Rect.unit (s := s) off size inb).shape.Idx) : ((Rect.unit (s := s) off size inb).emb j a).val = off a + (j a).val := by
  show off a + 1 * (j a).val = _
  rw [Nat.one_mul]

section scores
variable (x : Fin 8 → Vec F S256x256 .bf16) (k : Fin 17 → Vec F S256x256 .bf16)

/-- The score of a query against a key, blocks put together. -/
def scoreRC (i : Fin 2048) (j : Fin 4352) : Elt F .f32 :=
  score (x (blk 8 rfl i)) (k (blk 17 rfl j)) (ix2 (pos i) (pos j))

/-- Every query's score against every key. -/
def scores (y : S2048x4352.Idx) : Elt F .f32 := scoreRC x k (y 0) (y 1)

theorem scores_at (r : Fin 8) (n : Fin 17) (a b : Fin 256) (i : Fin 2048) (j : Fin 4352) (h0 : i.val = 256 * r.val + a.val)
    (h1 : j.val = 256 * n.val + b.val) : scoreRC x k i j = score (x r) (k n) (ix2 a b) := by
  unfold scoreRC
  rw [blk_at rfl r a _ h0, blk_at rfl n b _ h1, pos_at r.val a _ h0, pos_at n.val b _ h1]

theorem chunks_agree (r : Fin 8) (L : List (View.Piece (Elt F) S2048x4352 .f32)) (hL : ∀ p ∈ L, ∀ j, p.2 j = scores x k (p.1.emb j)) :
    ∀ (n : Nat) (h : n ≤ 17), ∀ p ∈ chunks (x r) k r L n h, ∀ j, p.2 j = scores x k (p.1.emb j)
  | 0, _ => hL
  | n + 1, h => by
    intro p hp
    rcases List.mem_cons.1 hp with rfl | hp
    · intro j
      refine (congrFun (shapeCast_self _ _) j).trans ?_
      refine Eq.trans ?_ (scores_at x k r ⟨n, h⟩ (j 0) (j 1) _ _ (unit_val (s_inb r ⟨n, h⟩) 0 j) (unit_val (s_inb r ⟨n, h⟩) 1 j)).symm
      exact congrArg (score (x r) (k ⟨n, h⟩)) (eq_ix2 j)
    · exact chunks_agree r L hL n _ p hp

theorem kept_agree : ∀ (r : Nat) (h : r ≤ 8), ∀ p ∈ kept x k r h, ∀ j, p.2 j = scores x k (p.1.emb j)
  | 0, _ => fun p hp => absurd hp List.not_mem_nil
  | r + 1, h => chunks_agree x k ⟨r, h⟩ _ (kept_agree r _) 17 _

theorem chunks_mem (X : Vec F S256x256 .bf16) (r : Fin 8) (L : List (View.Piece (Elt F) S2048x4352 .f32)) (i : Fin 17) :
    ∀ (n : Nat) (h : n ≤ 17), i.val < n → ∃ p ∈ chunks X k r L n h, p.1 = sR r i
  | 0, _, hi => absurd hi (Nat.not_lt_zero _)
  | n + 1, h, hi => by
    rcases Nat.lt_or_ge i.val n with h1 | h1
    · obtain ⟨p, hp, he⟩ := chunks_mem X r L i n _ h1
      exact ⟨p, List.mem_cons_of_mem _ hp, he⟩
    · exact ⟨_, List.mem_cons_self, congrArg (sR r) (Fin.ext (Nat.le_antisymm h1 (Nat.le_of_lt_succ hi)))⟩

/-- The scores read back are the scores. -/
theorem kept_read (s : Memref sig .tc .vmem S2048x4352 .f32) (r : Nat) (h : r + 1 ≤ 8) (n : Fin 17) (e : Fin 2) (a : Fin 256) (b : Fin 128) :
    s.view.readCov (kept x k (r + 1) h) (halfR ⟨r, h⟩ n e).toLoadRect (ix2 a b) = score (x ⟨r, h⟩) (k n) (ix2 a (lane e b)) := by
  rw [View.readCov_eq_canon']
  refine (View.canon_apply_of_pieces (scores x k) _ (kept_agree x k (r + 1) h) _ ?_).trans ?_
  · obtain ⟨p, hp, he⟩ := chunks_mem k (x ⟨r, h⟩) ⟨r, h⟩ (kept x k r (Nat.le_of_succ_le h)) n 17 (le_refl _) n.isLt
    refine ⟨p, hp, he ▸ ?_⟩
    have : (halfR ⟨r, h⟩ n e).toLoadRect.idx (ix2 a b) = (sR ⟨r, h⟩ n).toLoadRect.idx (ix2 a (lane e b)) := by
      funext i; refine Fin.ext ?_; fin_cases i <;> simp [halfR, sR, lane, ix2] <;> omega
    rw [this]
    exact LoadRect.idx_mem _ _
  · refine scores_at x k ⟨r, h⟩ n a (lane e b) _ _ (unit_val (half_inb ⟨r, h⟩ n e) 0 _) ((unit_val (half_inb ⟨r, h⟩ n e) 1 _).trans ?_)
    exact Nat.add_assoc _ _ _
end scores

section keys

theorem top_inb (n : Fin 17) : ∀ a, (![0, 256 * n.val] : Fin 2 → Nat) a + S128x256.size a ≤ S256x4352.size a := by
  intro a; fin_cases a <;> simp [S128x256, S256x4352] <;> omega
theorem bot_inb (n : Fin 17) : ∀ a, (![128, 256 * n.val] : Fin 2 → Nat) a + S128x256.size a ≤ S256x4352.size a := by
  intro a; fin_cases a <;> simp [S128x256, S256x4352] <;> omega
/-- The upper lanes of chunk `n` of the transposed keys, which come from the keys without positions. -/
def topR (n : Fin 17) : Rect S256x4352 := Rect.unit (s := S256x4352) ![0, 256 * n.val] S128x256.size (top_inb n)
/-- The lower lanes, which come from the keys with positions. -/
def botR (n : Fin 17) : Rect S256x4352 := Rect.unit (s := S256x4352) ![128, 256 * n.val] S128x256.size (bot_inb n)

/-- A chunk of keys transposed. -/
def turned (w : Vec F S256x128 .bf16) : Vec F S128x256 .bf16 :=
  shapeCast S128x256 (transpose S128x256 [1, 0] (shapeCast S256x128 w shapeCasts_S256x128_S256x128) transposes_S256x128_p1_0_S128x256) shapeCasts_S128x256_S128x256

variable (u w : Fin 17 → Vec F S256x128 .bf16)

/-- The transposed keys stored of the chunks before chunk `n`, the last first. -/
def keyPieces : (n : Nat) → n ≤ 17 → List (View.Piece (Elt F) S256x4352 .bf16)
  | 0, _ => []
  | n + 1, h => ⟨botR ⟨n, h⟩, turned (w ⟨n, h⟩)⟩ :: ⟨topR ⟨n, h⟩, turned (u ⟨n, h⟩)⟩ :: keyPieces n (Nat.le_of_succ_le h)

/-- Lane `l` of key `j` of chunk `n`: the lower lanes from `u`, the upper from `w`. -/
def key (u w : Vec F S256x128 .bf16) (l j : Fin 256) : Elt F .bf16 :=
  if h : l.val < 128 then u (ix2 j (⟨l.val, h⟩ : Fin 128)) else w (ix2 j (⟨l.val - 128, by omega⟩ : Fin 128))

/-- The transposed keys at a lane and a key. -/
def keyRC (l : Fin 256) (j : Fin 4352) : Elt F .bf16 := key (u (blk 17 rfl j)) (w (blk 17 rfl j)) l (pos j)

def keysAt (y : S256x4352.Idx) : Elt F .bf16 := keyRC u w (y 0) (y 1)

theorem keysAt_at (n : Fin 17) (l b : Fin 256) (i : Fin 256) (j : Fin 4352) (h0 : i.val = l.val)
    (h1 : j.val = 256 * n.val + b.val) : keyRC u w i j = key (u n) (w n) l b := by
  unfold keyRC
  rw [blk_at rfl n b _ h1, pos_at n.val b _ h1, (Fin.ext h0 : i = l)]

theorem key_bot (u w : Vec F S256x128 .bf16) (l : Fin 128) (j : Fin 256) : key u w ⟨128 + l.val, by omega⟩ j = w (ix2 j l) := by
  unfold key
  rw [dif_neg (by simp)]
  exact congrArg (fun l => w (ix2 j l)) (Fin.ext (Nat.add_sub_cancel_left ..))

theorem key_top (u w : Vec F S256x128 .bf16) (l : Fin 128) (j : Fin 256) : key u w ⟨l.val, by omega⟩ j = u (ix2 j l) := by
  unfold key
  rw [dif_pos l.isLt]

theorem turned_apply (w : Vec F S256x128 .bf16) (l : Fin 128) (j : Fin 256) : turned w (ix2 l j) = w (ix2 j l) := by
  pointwise [turned]

theorem keyPieces_agree : ∀ (n : Nat) (h : n ≤ 17), ∀ p ∈ keyPieces u w n h, ∀ j, p.2 j = keysAt u w (p.1.emb j)
  | 0, _ => fun p hp => absurd hp List.not_mem_nil
  | n + 1, h => by
    intro p hp
    rcases List.mem_cons.1 hp with rfl | hp
    · intro j
      refine Eq.trans ?_ (keysAt_at u w ⟨n, h⟩ ⟨128 + (j 0).val, Nat.add_lt_add_left (j 0).isLt 128⟩ (j 1) _ _
        (unit_val (bot_inb ⟨n, h⟩) 0 j) (unit_val (bot_inb ⟨n, h⟩) 1 j)).symm
      refine Eq.trans ?_ (key_bot _ _ (j 0) (j 1)).symm
      exact (congrArg _ (eq_ix2 j)).trans (turned_apply _ (j 0) (j 1))
    rcases List.mem_cons.1 hp with rfl | hp
    · intro j
      refine Eq.trans ?_ (keysAt_at u w ⟨n, h⟩ ⟨(j 0).val, Nat.lt_of_lt_of_le (j 0).isLt (show 128 ≤ 256 by decide)⟩ (j 1) _ _
        ((unit_val (top_inb ⟨n, h⟩) 0 j).trans (Nat.zero_add _)) (unit_val (top_inb ⟨n, h⟩) 1 j)).symm
      refine Eq.trans ?_ (key_top _ _ (j 0) (j 1)).symm
      exact (congrArg _ (eq_ix2 j)).trans (turned_apply _ (j 0) (j 1))
    · exact keyPieces_agree n _ p hp

theorem keyPieces_mem (i : Fin 17) : ∀ (n : Nat) (h : n ≤ 17), i.val < n →
    (∃ p ∈ keyPieces u w n h, p.1 = botR i) ∧ ∃ p ∈ keyPieces u w n h, p.1 = topR i
  | 0, _, hi => absurd hi (Nat.not_lt_zero _)
  | n + 1, h, hi => by
    rcases Nat.lt_or_ge i.val n with h1 | h1
    · obtain ⟨⟨p, hp, he⟩, p', hp', he'⟩ := keyPieces_mem i n (Nat.le_of_succ_le h) h1
      exact ⟨⟨p, List.mem_cons_of_mem _ (List.mem_cons_of_mem _ hp), he⟩, p', List.mem_cons_of_mem _ (List.mem_cons_of_mem _ hp'), he'⟩
    · have e : (⟨n, h⟩ : Fin 17) = i := Fin.ext (Nat.le_antisymm h1 (Nat.le_of_lt_succ hi))
      exact ⟨⟨_, List.mem_cons_self, congrArg botR e⟩, _, List.mem_cons_of_mem _ List.mem_cons_self, congrArg topR e⟩

/-- The transposed keys read back. -/
theorem keys_canon (y : S256x4352.Idx) : View.canon (keyPieces u w 17 (le_refl _)) y = keysAt u w y := by
  refine View.canon_apply_of_pieces (keysAt u w) _ (keyPieces_agree u w 17 _) y ?_
  have h0 : (y 0).val < 256 := (y 0).isLt
  have h1 : (y 1).val < 4352 := (y 1).isLt
  obtain ⟨⟨p, hp, he⟩, p', hp', he'⟩ := keyPieces_mem u w (blk 17 rfl (y 1)) 17 (le_refl _) (blk 17 rfl (y 1)).isLt
  by_cases h : (y 0).val < 128
  · refine ⟨p', hp', he' ▸ (LoadRect.mem_set _).2 fun a => ?_⟩
    fin_cases a
    · exact ⟨(y 0).val, h, by simp [topR]⟩
    · exact ⟨(y 1).val % 256, Nat.mod_lt _ (by omega), by simp [topR, blk]; omega⟩
  · refine ⟨p, hp, he ▸ (LoadRect.mem_set _).2 fun a => ?_⟩
    fin_cases a
    · exact ⟨(y 0).val - 128, by simp [botR]; omega, by simp [botR]; omega⟩
    · exact ⟨(y 1).val % 256, Nat.mod_lt _ (by omega), by simp [botR, blk]; omega⟩
end keys

/-- The softmax, with base two, of a row's scores against the values. -/
def soft (x : FVec Ideal S256x256 .bf16) (k : Fin 17 → FVec Ideal S256x256 .bf16) (w : Fin 17 → FVec Ideal S256x128 .bf16)
    (a : Fin 256) (d : Fin 128) : EReal :=
  Ideal.div (∑ p : Fin 17 × Fin 256, Ideal.exp2 (score (F := Ideal) x (k p.1) (ix2 a p.2)
      - ⨆ p : Fin 17 × Fin 256, score (F := Ideal) x (k p.1) (ix2 a p.2)) * w p.1 (ix2 p.2 d))
    (∑ p : Fin 17 × Fin 256, Ideal.exp2 (score (F := Ideal) x (k p.1) (ix2 a p.2)
      - ⨆ p : Fin 17 × Fin 256, score (F := Ideal) x (k p.1) (ix2 a p.2)))

section out
variable (s : Memref sig .tc .vmem S2048x4352 .f32) (x : Fin 8 → FVec Ideal S256x256 .bf16) (k : Fin 17 → FVec Ideal S256x256 .bf16)
    (w : Fin 17 → FVec Ideal S256x128 .bf16)

/-- The result of a row of a block of queries. -/
def softRC (i : Fin 2048) (d : Fin 128) : EReal := soft (x (blk 8 rfl i)) k w (pos i) d

def softAt (y : S2048x128.Idx) : EReal := softRC x k w (y 0) (y 1)

theorem soft_at (r : Fin 8) (a : Fin 256) (d : Fin 128) (i : Fin 2048) (e : Fin 128) (h0 : i.val = 256 * r.val + a.val)
    (h1 : e.val = d.val) : softRC x k w i e = soft (x r) k w a d := by
  unfold softRC
  rw [blk_at rfl r a _ h0, pos_at r.val a _ h0, (Fin.ext h1 : e = d)]

theorem stored_agree : ∀ (r : Nat) (h : r ≤ 8), ∀ p ∈ stored (F := Ideal) s x k w r h, ∀ j, p.2 j = softAt x k w (p.1.emb j)
  | 0, _ => fun p hp => absurd hp List.not_mem_nil
  | r + 1, h => by
    intro p hp
    rcases List.mem_cons.1 hp with rfl | hp
    · intro j
      refine Eq.trans ?_ (soft_at x k w ⟨r, h⟩ (j 0) (j 1) _ _ (unit_val (o_inb ⟨r, h⟩) 0 j)
        ((unit_val (o_inb ⟨r, h⟩) 1 j).trans (Nat.zero_add _))).symm
      exact (congrArg _ (eq_ix2 j)).trans (block_apply (x ⟨r, h⟩) k _ w (j 0) (j 1) fun n e b => kept_read (F := Ideal) x k s r h n e _ b)
    · exact stored_agree r _ p hp

theorem stored_mem (i : Fin 8) : ∀ (n : Nat) (h : n ≤ 8), i.val < n → ∃ p ∈ stored (F := Ideal) s x k w n h, p.1 = oR i
  | 0, _, hi => absurd hi (Nat.not_lt_zero _)
  | n + 1, h, hi => by
    rcases Nat.lt_or_ge i.val n with h1 | h1
    · obtain ⟨p, hp, he⟩ := stored_mem i n (Nat.le_of_succ_le h) h1
      exact ⟨p, List.mem_cons_of_mem _ hp, he⟩
    · exact ⟨_, List.mem_cons_self, congrArg oR (Fin.ext (Nat.le_antisymm h1 (Nat.le_of_lt_succ hi)))⟩

/-- What a point's body leaves in its block of the result. -/
theorem stored_canon (y : S2048x128.Idx) :
    View.canon (Val := Elt Ideal) (e := .bf16) (stored (F := Ideal) s x k w 8 (le_refl _)) y = softAt x k w y := by
  refine View.canon_apply_of_pieces (Val := Elt Ideal) (e := .bf16) (softAt x k w) _ (stored_agree s x k w 8 _) y ?_
  have h0 : (y 0).val < 2048 := (y 0).isLt
  obtain ⟨p, hp, he⟩ := stored_mem s x k w (blk 8 rfl (y 0)) 8 (le_refl _) (blk 8 rfl (y 0)).isLt
  refine ⟨p, hp, he ▸ (LoadRect.mem_set _).2 fun a => ?_⟩
  fin_cases a
  · exact ⟨(y 0).val % 256, Nat.mod_lt _ (by omega), by simp [oR, blk]; omega⟩
  · exact ⟨(y 1).val, (y 1).isLt, by simp [oR]⟩
end out

end Cert.KernelIdeal.Attn
end
-- ==== Proof.Attn.RunK.lean ====
/- The keys the run found transposed at an even point are the body's. -/
module

public import proofs.«01_k».proof.Proof.Gen.KernelIdeal.Frame.RunA
public import proofs.«01_k».proof.Proof.Attn.Kept

@[expose] public section

set_option maxRecDepth 16384

noncomputable section

namespace Cert.KernelIdeal.Attn

open Idealize.ShloMosaic Idealize.SL.Sem
open Cert.KernelIdeal Cert.KernelIdeal.Gen
variable {F : FTy → Type} [FloatOps F]

/-- The pieces stored into the keys' scratch. -/
theorem keys_A (c : Dev nD) (i : grid0.Coords) (arg3 : Memref sig .tc .vmem S2048x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S256x4352 .bf16) (harg11 : arg11.IsWhole) (arg12 : Memref sig .tc .vmem S2048x4352 .f32) (harg12 : arg12.IsWhole) (hc0 : cond0_0 i)
    (x0 : Vec F S2048x256 .bf16) (x1 x2 x3 : Vec F S4096x128 .bf16) (x4 x5 x6 : Vec F S256x128 .bf16) :
    (kernelRun0_A c i arg3 harg3 arg4 harg4 arg5 harg5 arg6 harg6 arg7 harg7 arg8 harg8 arg9 harg9 arg10 harg10 arg11 harg11 arg12 harg12 hc0 x0 x1 x2 x3 x4 x5 x6).2.1 =
      keyPieces (vals arg4 harg4 arg7 harg7 x1 x4) (vals arg5 harg5 arg8 harg8 x2 x5) 17 (le_refl _) := by
  sl_kernel_rfl

end Cert.KernelIdeal.Attn
end
-- ==== Proof.Attn.Point.lean ====
/- What each point of the grid leaves in its block of the result and in the keys' scratch, over its input blocks. -/
module

public import proofs.«01_k».proof.Proof.Gen.KernelIdeal.Frame
public import proofs.«01_k».proof.Proof.Attn.RunA
public import proofs.«01_k».proof.Proof.Attn.RunB
public import proofs.«01_k».proof.Proof.Attn.RunK
public import Idealize.ShloMosaic.Lib.WholeRead

@[expose] public section

set_option maxRecDepth 16384

noncomputable section

namespace Cert.KernelIdeal.Attn

open Idealize.ShloMosaic Idealize.SL.Sem
open Cert.KernelIdeal Cert.KernelIdeal.Gen

section
variable {F : FTy → Type} [FloatOps F]

/-- A block of 256 queries. -/
def queries (x0 : Vec F S2048x256 .bf16) (r : Fin 8) : Vec F S256x256 .bf16 := fun j => x0 ((qR r).toLoadRect.idx j)

/-- A chunk of 256 rows: the latent rows' sixteen chunks, then the context rows. -/
def chunk (x3 : Vec F S4096x128 .bf16) (x6 : Vec F S256x128 .bf16) (n : Fin 17) : Vec F S256x128 .bf16 :=
  if h : n.val < 16 then fun j => x3 ((vR ⟨n.val, h⟩).toLoadRect.idx j) else x6

theorem vals_eq (v : Memref sig .tc .vmem S4096x128 .bf16) (hv : v.IsWhole) (vc : Memref sig .tc .vmem S256x128 .bf16) (hvc : vc.IsWhole)
    (x3 : Vec F S4096x128 .bf16) (x6 : Vec F S256x128 .bf16) : vals v hv vc hvc x3 x6 = chunk x3 x6 := by
  funext n
  unfold vals chunk
  by_cases h : n.val < 16
  · refine (dif_pos h).trans (Eq.trans ?_ (dif_pos h).symm)
    funext j
    exact hv.readAt_unread x3 (vR ⟨n.val, h⟩).toLoadRect j
  · refine (dif_neg h).trans (Eq.trans ?_ (dif_neg h).symm)
    funext j
    refine (hvc.readAt_unread x6 cR.toLoadRect j).trans (congrArg x6 ?_)
    funext a
    refine Fin.ext ?_
    show ![0, 0] a + 1 * (j a).val = (j a).val
    fin_cases a <;> simp

theorem queries_eq' (v : Memref sig .tc .vmem S2048x256 .bf16) (hv : v.IsWhole) (x0 : Vec F S2048x256 .bf16) :
    (fun r => View.readAt (Elt F) v.view (qR r).toLoadRect (hv.unread x0)) = queries x0 := by
  funext r j
  exact hv.readAt_unread x0 (qR r).toLoadRect j

/-- A chunk of the transposed keys. -/
def keyBlock (u w : Fin 17 → Vec F S256x128 .bf16) (n : Fin 17) : Vec F S256x256 .bf16 := fun j => key (u n) (w n) (j 0) (j 1)

theorem keysAt_block (u w : Fin 17 → Vec F S256x128 .bf16) (n : Fin 17) (j : (ktR n).toLoadRect.shape.Idx) :
    keysAt u w ((ktR n).toLoadRect.idx j) = keyBlock u w n j :=
  keysAt_at u w n (j 0) (j 1) _ _ ((unit_val (kt_inb n) 0 j).trans (Nat.zero_add _)) (unit_val (kt_inb n) 1 j)

/-- An even point leaves the transposed keys. -/
theorem scratch_A (c : Dev nD) (i : grid0.Coords) (arg3 : Memref sig .tc .vmem S2048x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S256x4352 .bf16) (harg11 : arg11.IsWhole) (arg12 : Memref sig .tc .vmem S2048x4352 .f32) (harg12 : arg12.IsWhole) (hc0 : cond0_0 i)
    (x0 : Vec F S2048x256 .bf16) (x1 x2 x3 : Vec F S4096x128 .bf16) (x4 x5 x6 : Vec F S256x128 .bf16) :
    sout0_A_0 c i arg3 harg3 arg4 harg4 arg5 harg5 arg6 harg6 arg7 harg7 arg8 harg8 arg9 harg9 arg10 harg10 arg11 harg11 arg12 harg12 hc0 x0 x1 x2 x3 x4 x5 x6 = keysAt (chunk x1 x4) (chunk x2 x5) := by
  unfold sout0_A_0
  rw [View.read_writes_junk_eq_canon, keys_A, vals_eq, vals_eq]
  exact funext fun y => keys_canon _ _ y
end

/-- What an even point leaves in its block of the result. -/
theorem block_A (c : Dev nD) (i : grid0.Coords) (arg3 : Memref sig .tc .vmem S2048x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S256x4352 .bf16) (harg11 : arg11.IsWhole) (arg12 : Memref sig .tc .vmem S2048x4352 .f32) (harg12 : arg12.IsWhole) (hc0 : cond0_0 i)
    (x0 : Vec Ideal S2048x256 .bf16) (x1 x2 x3 : Vec Ideal S4096x128 .bf16) (x4 x5 x6 : Vec Ideal S256x128 .bf16) :
    out0_A_7 (F := Ideal) c i arg3 harg3 arg4 harg4 arg5 harg5 arg6 harg6 arg7 harg7 arg8 harg8 arg9 harg9 arg10 harg10 arg11 harg11 arg12 harg12 hc0 x0 x1 x2 x3 x4 x5 x6 = softAt (queries (F := Ideal) x0) (keyBlock (F := Ideal) (chunk (F := Ideal) x1 x4) (chunk (F := Ideal) x2 x5)) (chunk (F := Ideal) x3 x6) := by
  unfold out0_A_7
  rw [View.read_writes_junk_eq_canon, stored_A, queries_eq', vals_eq, keys_A, vals_eq, vals_eq]
  have e : (fun n => arg11.view.readCov (keyPieces (F := Ideal) (chunk (F := Ideal) x1 x4) (chunk (F := Ideal) x2 x5) 17 (le_refl _)) (ktR n).toLoadRect)
      = keyBlock (F := Ideal) (chunk (F := Ideal) x1 x4) (chunk (F := Ideal) x2 x5) := by
    funext n
    rw [View.readCov_eq_canon']
    exact funext fun j => (keys_canon (F := Ideal) _ _ _).trans (keysAt_block (F := Ideal) _ _ n j)
  rw [e]
  exact funext fun y => stored_canon _ _ _ _ y

/-- What an odd point leaves in its block of the result, over transposed keys that the point before left. -/
theorem block_B (c : Dev nD) (i : grid0.Coords) (arg3 : Memref sig .tc .vmem S2048x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S2048x128 .bf16) (harg10 : arg10.IsWhole) (arg11 : Memref sig .tc .vmem S256x4352 .bf16) (harg11 : arg11.IsWhole) (arg12 : Memref sig .tc .vmem S2048x4352 .f32) (harg12 : arg12.IsWhole) (hc0 : ¬cond0_0 i)
    (x0 : Vec Ideal S2048x256 .bf16) (x1 x2 x3 : Vec Ideal S4096x128 .bf16) (x4 x5 x6 : Vec Ideal S256x128 .bf16)
    (u w : Fin 17 → Vec Ideal S256x128 .bf16) :
    out0_B_7 (F := Ideal) c i arg3 harg3 arg4 harg4 arg5 harg5 arg6 harg6 arg7 harg7 arg8 harg8 arg9 harg9 arg10 harg10 arg11 harg11 arg12 harg12 hc0 x0 x1 x2 x3 x4 x5 x6 (keysAt (F := Ideal) u w) = softAt (queries (F := Ideal) x0) (keyBlock (F := Ideal) u w) (chunk (F := Ideal) x3 x6) := by
  unfold out0_B_7
  rw [View.read_writes_junk_eq_canon, stored_B, queries_eq', vals_eq]
  have e : (fun n => View.readAt (Elt Ideal) arg11.view (ktR n).toLoadRect (harg11.unread (keysAt (F := Ideal) u w))) = keyBlock (F := Ideal) u w := by
    funext n j
    exact (harg11.readAt_unread (keysAt (F := Ideal) u w) _ j).trans (keysAt_block (F := Ideal) _ _ n j)
  rw [e]
  exact funext fun y => stored_canon _ _ _ _ y

end Cert.KernelIdeal.Attn
end
-- ==== Proof.Attn.Host.lean ====
/- The arrays the host code lays out for the kernel, at an index, in the arguments. -/
module

public import proofs.«01_k».proof.Proof.Gen.KernelIdeal.Value
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The queries without positions. -/
def qn : S4x4096x16x128.Idx → EReal := m ((c : Thread nD τ).loc main_arg0)
/-- The queries with positions. -/
def qp : S4x4096x16x64.Idx → EReal := m ((c : Thread nD τ).loc main_arg1)
/-- The latent keys without positions. -/
def knx : S4x4096x16x128.Idx → EReal := m ((c : Thread nD τ).loc main_arg2)
/-- The latent keys with positions. -/
def kpx : S4x4096x64.Idx → EReal := m ((c : Thread nD τ).loc main_arg3)
/-- The latent values. -/
def vx : S4x4096x16x128.Idx → EReal := m ((c : Thread nD τ).loc main_arg4)
/-- The context keys without positions. -/
def knc : S4x256x16x128.Idx → EReal := m ((c : Thread nD τ).loc main_arg5)
/-- The context keys with positions. -/
def kpc : S4x256x64.Idx → EReal := m ((c : Thread nD τ).loc main_arg6)
/-- The context values. -/
def vc : S4x256x16x128.Idx → EReal := m ((c : Thread nD τ).loc main_arg7)

/-- What the queries are scaled by. -/
def scale : EReal := Ideal.div (Ideal.rsqrt (192 : ℝ)) (Ideal.log (2 : ℝ))

theorem key_apply (b : Fin 4) (j : Fin 4096) (h : Fin 16) (l : Fin 128) (r : Fin 16384) (k : Fin 4096)
    (hr : r.val = 4096 * b.val + j.val) (hk : k.val = 128 * h.val + l.val) :
    (V m c main_v18 : S16384x4096.Idx → EReal) (ix2 r k) = knx m c (ix4 b j h l) := by
  entry_read
  pointwise
  rw [dif_pos (by omega)]
  show knx m c _ = _
  blk_ext

theorem val_apply (b : Fin 4) (j : Fin 4096) (h : Fin 16) (l : Fin 128) (r : Fin 16384) (k : Fin 4096)
    (hr : r.val = 4096 * b.val + j.val) (hk : k.val = 128 * (16 + h.val) + l.val) :
    (V m c main_v18 : S16384x4096.Idx → EReal) (ix2 r k) = vx m c (ix4 b j h l) := by
  entry_read
  pointwise
  rw [dif_neg (by omega)]
  show vx m c _ = _
  blk_ext

theorem keyC_apply (b : Fin 4) (j : Fin 256) (h : Fin 16) (l : Fin 128) (r : Fin 1024) (k : Fin 4096)
    (hr : r.val = 256 * b.val + j.val) (hk : k.val = 128 * h.val + l.val) :
    (V m c main_v11 : S1024x4096.Idx → EReal) (ix2 r k) = knc m c (ix4 b j h l) := by
  entry_read
  pointwise
  rw [dif_pos (by omega)]
  show knc m c _ = _
  blk_ext

theorem valC_apply (b : Fin 4) (j : Fin 256) (h : Fin 16) (l : Fin 128) (r : Fin 1024) (k : Fin 4096)
    (hr : r.val = 256 * b.val + j.val) (hk : k.val = 128 * (16 + h.val) + l.val) :
    (V m c main_v11 : S1024x4096.Idx → EReal) (ix2 r k) = vc m c (ix4 b j h l) := by
  entry_read
  pointwise
  rw [dif_neg (by omega)]
  show vc m c _ = _
  blk_ext

theorem pe_apply (b : Fin 4) (j : Fin 4096) (l : Fin 128) (r : Fin 16384) (hr : r.val = 4096 * b.val + j.val) :
    (V m c main_v22 : S16384x128.Idx → EReal) (ix2 r l) = if h : l.val < 64 then kpx m c (ix3 b j ⟨l.val, h⟩) else 0 := by
  entry_read
  pointwise
  by_cases h : l.val < 64
  · rw [dif_pos h, dif_pos h]
    show kpx m c _ = _
    blk_ext
  · rw [dif_neg h, dif_neg h]

theorem peC_apply (b : Fin 4) (j : Fin 256) (l : Fin 128) (r : Fin 1024) (hr : r.val = 256 * b.val + j.val) :
    (V m c main_v15 : S1024x128.Idx → EReal) (ix2 r l) = if h : l.val < 64 then kpc m c (ix3 b j ⟨l.val, h⟩) else 0 := by
  entry_read
  pointwise
  by_cases h : l.val < 64
  · rw [dif_pos h, dif_pos h]
    show kpc m c _ = _
    blk_ext
  · rw [dif_neg h, dif_neg h]

theorem ofBits_192 : Ideal.ofBits .f32 0x43400000#32 = ((192 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

theorem queries_eq : V m c main_v8 =
    (truncf .bf16 (shapeCast S16384x4096 (mulf (concatenate S4x4096x16x256 3 [⟨S4x4096x16x128, qn m c⟩, ⟨S4x4096x16x64, qp m c⟩,
        ⟨S4x4096x16x64, broadcastInDim S4x4096x16x64 ![] bcast_S_S4x4096x16x64 (constant S_ .f32 0x00000000#32)⟩]
          concatenates_S4x4096x16x128_S4x4096x16x64_S4x4096x16x64_S4x4096x16x256_d3 : FVec Ideal S4x4096x16x256 .f32)
        (broadcastInDim S4x4096x16x256 ![] bcast_S_S4x4096x16x256 (Host.divf (Host.rsqrt (constant S_ .f32 0x43400000#32)) (Host.log (constant S_ .f32 0x40000000#32)))))
      shapeCasts_S4x4096x16x256_S16384x4096) bitsLt_bf16_f32 : FVec Ideal S16384x4096 .bf16) := by
  sl_kernel_rfl

theorem query_apply (b : Fin 4) (i : Fin 4096) (h : Fin 16) (l : Fin 256) (r : Fin 16384) (k : Fin 4096)
    (hr : r.val = 4096 * b.val + i.val) (hk : k.val = 256 * h.val + l.val) :
    (V m c main_v8 : S16384x4096.Idx → EReal) (ix2 r k) = (if h1 : l.val < 128 then qn m c (ix4 b i h ⟨l.val, h1⟩) else
        if h2 : l.val - 128 < 64 then qp m c (ix4 b i h ⟨l.val - 128, h2⟩) else 0) * scale := by
  rw [queries_eq]
  pointwise
  have e : k.val % 256 = l.val := by omega
  refine congrArg₂ (· * ·) ?_ ?_
  · by_cases h1 : l.val < 128
    · rw [dif_pos (e ▸ h1), dif_pos h1]
      blk_ext
    · rw [dif_neg (e ▸ h1), dif_neg h1]
      by_cases h2 : l.val - 128 < 64
      · rw [dif_pos (e ▸ h2), dif_pos h2]
        blk_ext
      · rw [dif_neg (e ▸ h2), dif_neg h2]
  · rw [ofBits_192, ofBits_two]
    rfl

end Cert.KernelIdeal.Attn
end
-- ==== Proof.Attn.Staged.lean ====
/- The blocks a point stages, in the arguments. -/
module

public import proofs.«01_k».proof.Proof.Attn.Host

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The blocks a point stages: point `32 b + 2 h + t` has batch `b`, head `h` and half `t` of the queries. -/
theorem idx (t : Fin cfg0.N) :
    (win0_0.index t 0 = 2 * (t.val / 32) + t.val % 2 ∧ win0_0.index t 1 = t.val / 2 % 16) ∧
    (win0_1.index t 0 = t.val / 32 ∧ win0_1.index t 1 = t.val / 2 % 16) ∧
    (win0_2.index t 0 = t.val / 32 ∧ win0_2.index t 1 = 0) ∧
    (win0_3.index t 0 = t.val / 32 ∧ win0_3.index t 1 = 16 + t.val / 2 % 16) ∧
    (win0_4.index t 0 = t.val / 32 ∧ win0_4.index t 1 = t.val / 2 % 16) ∧
    (win0_5.index t 0 = t.val / 32 ∧ win0_5.index t 1 = 0) ∧
    (win0_6.index t 0 = t.val / 32 ∧ win0_6.index t 1 = 16 + t.val / 2 % 16) ∧
    (win0_7.index t 0 = 2 * (t.val / 32) + t.val % 2 ∧ win0_7.index t 1 = t.val / 2 % 16) := by
  revert t
  decide +kernel

variable (t : Fin cfg0.N) (b : Fin 4) (h : Fin 16) (hb : b.val = t.val / 32) (hh : h.val = t.val / 2 % 16)
include hb hh

theorem staged0 (a : Fin 2048) (l : Fin 256) (i : Fin 4096) (hi : i.val = 2048 * (t.val % 2) + a.val) :
    (iblk m c 0 t : S2048x256.Idx → EReal) (ix2 a l) = (if h1 : l.val < 128 then qn m c (ix4 b i h ⟨l.val, h1⟩) else
        if h2 : l.val - 128 < 64 then qp m c (ix4 b i h ⟨l.val - 128, h2⟩) else 0) * scale := by
  refine Eq.trans ?_ (query_apply m c b i h l ⟨4096 * b.val + i.val, by omega⟩ ⟨256 * h.val + l.val, by omega⟩ rfl rfl)
  blk_ext [iblk, idx t]

theorem staged1 (j : Fin 4096) (l : Fin 128) : (iblk m c 1 t : S4096x128.Idx → EReal) (ix2 j l) = knx m c (ix4 b j h l) := by
  refine Eq.trans ?_ (key_apply m c b j h l ⟨4096 * b.val + j.val, by omega⟩ ⟨128 * h.val + l.val, by omega⟩ rfl rfl)
  blk_ext [iblk, idx t]

theorem staged3 (j : Fin 4096) (l : Fin 128) : (iblk m c 3 t : S4096x128.Idx → EReal) (ix2 j l) = vx m c (ix4 b j h l) := by
  refine Eq.trans ?_ (val_apply m c b j h l ⟨4096 * b.val + j.val, by omega⟩ ⟨128 * (16 + h.val) + l.val, by omega⟩ rfl rfl)
  blk_ext [iblk, idx t]

theorem staged4 (j : Fin 256) (l : Fin 128) : (iblk m c 4 t : S256x128.Idx → EReal) (ix2 j l) = knc m c (ix4 b j h l) := by
  refine Eq.trans ?_ (keyC_apply m c b j h l ⟨256 * b.val + j.val, by omega⟩ ⟨128 * h.val + l.val, by omega⟩ rfl rfl)
  blk_ext [iblk, idx t]

theorem staged6 (j : Fin 256) (l : Fin 128) : (iblk m c 6 t : S256x128.Idx → EReal) (ix2 j l) = vc m c (ix4 b j h l) := by
  refine Eq.trans ?_ (valC_apply m c b j h l ⟨256 * b.val + j.val, by omega⟩ ⟨128 * (16 + h.val) + l.val, by omega⟩ rfl rfl)
  blk_ext [iblk, idx t]

omit hh

theorem staged2 (j : Fin 4096) (l : Fin 128) :
    (iblk m c 2 t : S4096x128.Idx → EReal) (ix2 j l) = if h : l.val < 64 then kpx m c (ix3 b j ⟨l.val, h⟩) else 0 := by
  refine Eq.trans ?_ (pe_apply m c b j l ⟨4096 * b.val + j.val, by omega⟩ rfl)
  blk_ext [iblk, idx t]

theorem staged5 (j : Fin 256) (l : Fin 128) :
    (iblk m c 5 t : S256x128.Idx → EReal) (ix2 j l) = if h : l.val < 64 then kpc m c (ix3 b j ⟨l.val, h⟩) else 0 := by
  refine Eq.trans ?_ (peC_apply m c b j l ⟨256 * b.val + j.val, by omega⟩ rfl)
  blk_ext [iblk, idx t]

end Cert.KernelIdeal.Attn
end
-- ==== Proof.Attn.Score.lean ====
/- A score as the kernel takes it, over 256 lanes of which the last 64 are zero, and as the reference takes it. -/
module

public import proofs.«01_k».proof.Proof.Attn.Math
public import Idealize.ShloMosaic.Lib.Pointwise.Sums

@[expose] public section

noncomputable section

namespace Cert.Attn

open Idealize.ShloMosaic

/-- An extended real that is a real. -/
def Real? (x : EReal) : Prop := ∃ r : ℝ, x = r

section
variable (qn kn : Fin 128 → EReal) (qp kp : Fin 64 → EReal)

/-- A query's or a key's lanes: without positions, with positions, then zero. -/
def lanes (n : Fin 128 → EReal) (p : Fin 64 → EReal) (l : Fin 256) : EReal :=
  if h1 : l.val < 128 then n ⟨l.val, h1⟩ else if h2 : l.val - 128 < 64 then p ⟨l.val - 128, h2⟩ else 0

/-- The score of a query against a key, before scaling. -/
def plain : EReal := (∑ l, qn l * kn l) + ∑ l, kp l * qp l

theorem sum_lanes (s : EReal) : ∑ l, (lanes qn qp l * s) * lanes kn kp l = (∑ l, (qn l * s) * kn l) + ∑ l, (qp l * s) * kp l := by
  rw [Fin.sum_univ_two_halves 128 128 rfl]
  refine congrArg₂ (· + ·) (Finset.sum_congr rfl fun l _ => ?_) ?_
  · simp only [lanes, l.isLt, dif_pos]
  · rw [Fin.sum_univ_two_halves 64 64 rfl]
    refine (congrArg₂ (· + ·) (Finset.sum_congr rfl fun l _ => ?_) (Finset.sum_eq_zero fun l _ => ?_)).trans (add_zero _)
    · have h1 : ¬ (128 + l.val) < 128 := by omega
      simp only [lanes, dif_neg h1, Nat.add_sub_cancel_left, l.isLt, dif_pos]
    · have h1 : ¬ (128 + (64 + l.val)) < 128 := by omega
      have h2 : ¬ (128 + (64 + l.val)) - 128 < 64 := by omega
      simp only [lanes, dif_neg h1, dif_neg h2, mul_zero]

/-- Over reals both scores are real: the one is the other over ln 2. -/
theorem score_real (hqn : ∀ l, Real? (qn l)) (hkn : ∀ l, Real? (kn l)) (hqp : ∀ l, Real? (qp l)) (hkp : ∀ l, Real? (kp l)) :
    ∃ g : ℝ, ∑ l, (lanes qn qp l * Ideal.div (Ideal.rsqrt (192 : ℝ)) (Ideal.log (2 : ℝ))) * lanes kn kp l = ((g / Real.log 2 : ℝ) : EReal)
      ∧ plain qn kn qp kp * Ideal.rsqrt (192 : ℝ) = (g : EReal) := by
  choose a ha using hqn
  choose b hb using hkn
  choose d hd using hqp
  choose e he using hkp
  have hl : Real.log 2 ≠ 0 := (Real.log_pos one_lt_two).ne'
  have hr : Ideal.rsqrt (192 : ℝ) = (((Real.sqrt 192)⁻¹ : ℝ) : EReal) := by
    rw [Ideal.rsqrt_coe, if_neg (by norm_num), if_neg (by norm_num)]
  have hg : Ideal.log (2 : ℝ) = ((Real.log 2 : ℝ) : EReal) := by rw [Ideal.log_coe, if_neg (by norm_num)]
  refine ⟨((∑ l, a l * b l) + ∑ l, e l * d l) * (Real.sqrt 192)⁻¹, ?_, ?_⟩
  · rw [sum_lanes, hr, hg, Ideal.div_coe hl]
    simp only [ha, hb, hd, he, ← EReal.coe_mul, ← coe_sum, ← EReal.coe_add]
    refine congrArg _ ?_
    rw [add_mul, add_div, Finset.sum_mul, Finset.sum_mul, Finset.sum_div, Finset.sum_div]
    refine congrArg₂ (· + ·) (Finset.sum_congr rfl fun l _ => by ring) (Finset.sum_congr rfl fun l _ => by ring)
  · rw [plain, hr]
    simp only [ha, hb, hd, he, ← EReal.coe_mul, ← coe_sum, ← EReal.coe_add]
end

section
variable {J : Type} [Fintype J] [Nonempty J] (qn : Fin 128 → EReal) (qp : Fin 64 → EReal) (kn : J → Fin 128 → EReal) (kp : J → Fin 64 → EReal)
  (v : J → EReal)

/-- Softmax of scores to base two against values, the division last. -/
def attend2 (S v : J → EReal) : EReal :=
  Ideal.div (∑ j, Ideal.exp2 (S j - ⨆ j, S j) * v j) (∑ j, Ideal.exp2 (S j - ⨆ j, S j))

/-- The scores may be counted in another way. -/
theorem attend2_reindex {K : Type} [Fintype K] (e : K ≃ J) (S v : J → EReal) :
    attend2 (fun k => S (e k)) (fun k => v (e k)) = attend2 S v := by
  unfold attend2
  rw [e.iSup_comp (g := S)]
  exact congrArg₂ Ideal.div (Equiv.sum_comp e fun j => Ideal.exp2 (S j - ⨆ j, S j) * v j) (Equiv.sum_comp e fun j => Ideal.exp2 (S j - ⨆ j, S j))

/-- Attention of one query, as the kernel takes it: base two, the division last. -/
def base2 : EReal :=
  attend2 (fun j => ∑ l, (lanes qn qp l * Ideal.div (Ideal.rsqrt (192 : ℝ)) (Ideal.log (2 : ℝ))) * lanes (kn j) (kp j) l) v

/-- Attention of one query, as the reference takes it: base e, the division first. -/
def baseE : EReal :=
  ∑ j, v j * Ideal.div (Ideal.exp (plain qn (kn j) qp (kp j) * Ideal.rsqrt (192 : ℝ) - ⨆ j, plain qn (kn j) qp (kp j) * Ideal.rsqrt (192 : ℝ)))
    (∑ j, Ideal.exp (plain qn (kn j) qp (kp j) * Ideal.rsqrt (192 : ℝ) - ⨆ j, plain qn (kn j) qp (kp j) * Ideal.rsqrt (192 : ℝ)))

theorem base2_eq (hqn : ∀ l, Real? (qn l)) (hkn : ∀ j l, Real? (kn j l)) (hqp : ∀ l, Real? (qp l)) (hkp : ∀ j l, Real? (kp j l)) :
    base2 qn qp kn kp v = baseE qn qp kn kp v := by
  choose g hS hT using fun j => score_real qn (kn j) qp (kp j) hqn (hkn j) hqp (hkp j)
  exact attend_eq g v _ _ hS hT

end

/-- Chunk and position of a key. -/
def flat : Fin 17 × Fin 256 ≃ Fin 4352 := finProdFinEquiv

theorem flat_val (n : Fin 17) (j : Fin 256) : (flat (n, j)).val = 256 * n.val + j.val := Nat.add_comm _ _

section
variable {α : Type} (x : Fin 4096 → α) (y : Fin 256 → α)

/-- The latent rows, then the context rows. -/
def joined (j : Fin 4352) : α := if h : j.val < 4096 then x ⟨j.val, h⟩ else y ⟨j.val - 4096, by omega⟩

theorem joined_all {p : α → Prop} (hx : ∀ j, p (x j)) (hy : ∀ j, p (y j)) (j : Fin 4352) : p (joined x y j) := by
  unfold joined
  split
  · exact hx _
  · exact hy _
end

end Cert.Attn
end
-- ==== Proof.Attn.Result.lean ====
/- The kernel's result, in the arguments. -/
module

public import proofs.«01_k».proof.Proof.Attn.Point
public import proofs.«01_k».proof.Proof.Attn.Staged
public import proofs.«01_k».proof.Proof.Attn.Score

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen Cert.Attn

/-- What a point computes of one query, over that query's lanes, the keys' and the values. -/
theorem soft_base2 (x : FVec Ideal S256x256 .bf16) (k : Fin 17 → FVec Ideal S256x256 .bf16) (w : Fin 17 → FVec Ideal S256x128 .bf16)
    (a : Fin 256) (d : Fin 128) (qn : Fin 128 → EReal) (qp : Fin 64 → EReal) (kn : Fin 4352 → Fin 128 → EReal) (kp : Fin 4352 → Fin 64 → EReal)
    (v : Fin 4352 → EReal) (hx : ∀ l : Fin 256, (x (ix2 a l) : EReal) = lanes qn qp l * scale)
    (hk : ∀ (n : Fin 17) (l j : Fin 256), (k n (ix2 l j) : EReal) = lanes (kn (flat (n, j))) (kp (flat (n, j))) l)
    (hw : ∀ (n : Fin 17) (j : Fin 256), (w n (ix2 j d) : EReal) = v (flat (n, j))) : soft x k w a d = base2 qn qp kn kp v := by
  have hs : ∀ p : Fin 17 × Fin 256, (score (F := Ideal) x (k p.1) (ix2 a p.2) : EReal)
      = ∑ l, (lanes qn qp l * Ideal.div (Ideal.rsqrt (192 : ℝ)) (Ideal.log (2 : ℝ))) * lanes (kn (flat p)) (kp (flat p)) l := fun p =>
    (score_apply _ _ _ _).trans (Finset.sum_congr rfl fun l _ => congrArg₂ (· * ·) (hx l) (hk p.1 l p.2))
  rw [base2, ← attend2_reindex flat, attend2]
  unfold soft
  rw [iSup_congr hs]
  exact congrArg₂ Ideal.div
    (Finset.sum_congr rfl fun p _ => congrArg₂ (fun s t : EReal => Ideal.exp2 (s - _) * t) (hs p) (hw p.1 p.2))
    (Finset.sum_congr rfl fun p _ => congrArg (fun s : EReal => Ideal.exp2 (s - _)) (hs p))

variable (m : (ℓ : Loc nD τ sig) → Buf (Elt Ideal) ℓ) (c : Dev nD)

/-- Key `j` without positions. -/
def keyN (b : Fin 4) (h : Fin 16) (j : Fin 4352) (l : Fin 128) : EReal :=
  joined (fun j => knx m c (ix4 b j h l)) (fun j => knc m c (ix4 b j h l)) j
/-- Key `j` with positions. -/
def keyP (b : Fin 4) (j : Fin 4352) (l : Fin 64) : EReal := joined (fun j => kpx m c (ix3 b j l)) (fun j => kpc m c (ix3 b j l)) j
/-- Value `j`. -/
def value (b : Fin 4) (h : Fin 16) (d : Fin 128) (j : Fin 4352) : EReal :=
  joined (fun j => vx m c (ix4 b j h d)) (fun j => vc m c (ix4 b j h d)) j

theorem joined_at {α : Type} (x : Fin 4096 → α) (y : Fin 256 → α) (n : Fin 17) (j : Fin 256) (h : n.val < 16) :
    joined x y (flat (n, j)) = x ⟨256 * n.val + j.val, by omega⟩ := by
  have e := flat_val n j
  rw [joined, dif_pos (by omega)]
  exact congrArg x (Fin.ext e)

theorem joined_rest {α : Type} (x : Fin 4096 → α) (y : Fin 256 → α) (n : Fin 17) (j : Fin 256) (h : ¬ n.val < 16) :
    joined x y (flat (n, j)) = y j := by
  have e := flat_val n j
  rw [joined, dif_neg (by omega)]
  exact congrArg y (Fin.ext (by show (flat (n, j)).val - 4096 = j.val; omega))

/-- A chunk of two arrays of rows is a stretch of the rows joined. -/
theorem chunk_joined (x : FVec Ideal S4096x128 .bf16) (y : FVec Ideal S256x128 .bf16) (n : Fin 17) (j : Fin 256) (l : Fin 128) :
    (chunk (F := Ideal) x y n (ix2 j l) : EReal) = joined (fun j => (x (ix2 j l) : EReal)) (fun j => (y (ix2 j l) : EReal)) (flat (n, j)) := by
  unfold chunk
  by_cases h : n.val < 16
  · rw [joined_at _ _ n j h]
    refine (congrFun (dif_pos h) (ix2 j l)).trans (congrArg x ?_)
    funext a
    refine Fin.ext ?_
    fin_cases a <;> simp [LoadRect.idx, vR, ix2]
  · rw [joined_rest _ _ n j h]
    exact congrFun (dif_neg h) (ix2 j l)

/-- The transposed keys a point holds are its batch's and head's keys. -/
theorem keyBlock_lanes (t : Fin cfg0.N) (b : Fin 4) (h : Fin 16) (hb : b.val = t.val / 32) (hh : h.val = t.val / 2 % 16) (n : Fin 17) (l j : Fin 256) :
    (keyBlock (F := Ideal) (chunk (F := Ideal) (iblk m c 1 t) (iblk m c 4 t)) (chunk (F := Ideal) (iblk m c 2 t) (iblk m c 5 t)) n (ix2 l j) : EReal)
      = lanes (keyN m c b h (flat (n, j))) (keyP m c b (flat (n, j))) l := by
  show (key (F := Ideal) _ _ l j : EReal) = _
  by_cases h1 : l.val < 128
  · refine (dif_pos h1).trans ((chunk_joined _ _ n j ⟨l.val, h1⟩).trans (Eq.trans ?_ (dif_pos h1).symm))
    exact congrArg₂ (fun x y => joined x y (flat (n, j))) (funext fun j => staged1 m c t b h hb hh j _) (funext fun j => staged4 m c t b h hb hh j _)
  · refine (dif_neg h1).trans ((chunk_joined _ _ n j ⟨l.val - 128, by omega⟩).trans (Eq.trans ?_ (dif_neg h1).symm))
    refine (congrArg₂ (fun x y => joined x y (flat (n, j))) (funext fun j => staged2 m c t b hb j _) (funext fun j => staged5 m c t b hb j _)).trans ?_
    by_cases h2 : l.val - 128 < 64
    · simp only [h2, dif_pos]
      rfl
    · simp only [h2, dif_neg, not_false_eq_true]
      unfold joined
      split <;> rfl

theorem chunk_value (t : Fin cfg0.N) (b : Fin 4) (h : Fin 16) (hb : b.val = t.val / 32) (hh : h.val = t.val / 2 % 16) (n : Fin 17) (j : Fin 256)
    (d : Fin 128) : (chunk (F := Ideal) (iblk m c 3 t) (iblk m c 6 t) n (ix2 j d) : EReal) = value m c b h d (flat (n, j)) :=
  (chunk_joined _ _ n j d).trans
    (congrArg₂ (fun x y => joined x y (flat (n, j))) (funext fun j => staged3 m c t b h hb hh j d) (funext fun j => staged6 m c t b h hb hh j d))

/-- Two points of one batch and head hold the same keys. -/
theorem keyBlock_same (t s : Fin cfg0.N) (h1 : s.val / 32 = t.val / 32) (h2 : s.val / 2 = t.val / 2) :
    keyBlock (F := Ideal) (chunk (F := Ideal) (iblk m c 1 s) (iblk m c 4 s)) (chunk (F := Ideal) (iblk m c 2 s) (iblk m c 5 s))
      = keyBlock (F := Ideal) (chunk (F := Ideal) (iblk m c 1 t) (iblk m c 4 t)) (chunk (F := Ideal) (iblk m c 2 t) (iblk m c 5 t)) := by
  have hN : t.val < 128 := lt_of_lt_of_eq t.isLt (show cfg0.N = 128 from N_0)
  funext n j
  rw [eq_ix2 j]
  exact (keyBlock_lanes m c s ⟨t.val / 32, by omega⟩ ⟨t.val / 2 % 16, by omega⟩ (by simp only; omega) (by simp only; omega) n _ _).trans
    (keyBlock_lanes m c t ⟨t.val / 32, by omega⟩ ⟨t.val / 2 % 16, by omega⟩ rfl rfl n _ _).symm

/-- What a point leaves in its block of the result. -/
theorem point (t : Fin cfg0.N) : (outsAt0 m c t.val t.isLt).1
    = softAt (queries (F := Ideal) (iblk m c 0 t))
        (keyBlock (F := Ideal) (chunk (F := Ideal) (iblk m c 1 t) (iblk m c 4 t)) (chunk (F := Ideal) (iblk m c 2 t) (iblk m c 5 t)))
        (chunk (F := Ideal) (iblk m c 3 t) (iblk m c 6 t)) := by
  by_cases h0 : t.val % 2 = 0
  · rw [outsAt0_A m c t h0]
    dsimp only
    rw [block_A]
  · have hN : t.val < cfg0.N := t.isLt
    have e := outsAt0_A m c ⟨t.val - 1, by omega⟩ (by simp only; omega)
    rw [outsAt0_B m c t h0]
    dsimp only at e ⊢
    rw [e]
    dsimp only
    rw [scratch_A, block_B, keyBlock_same m c t ⟨t.val - 1, by omega⟩ (by simp only; omega) (by simp only; omega)]

/-- The result at batch `b`, position `i`, head `h` and lane `d`. -/
def attended (b : Fin 4) (i : Fin 4096) (h : Fin 16) (d : Fin 128) : EReal :=
  base2 (fun l => qn m c (ix4 b i h l)) (fun l => qp m c (ix4 b i h l)) (keyN m c b h) (keyP m c b) (value m c b h d)

theorem point_at (t : Fin cfg0.N) (b : Fin 4) (h : Fin 16) (hb : b.val = t.val / 32) (hh : h.val = t.val / 2 % 16) (a : Fin 2048) (d : Fin 128)
    (i : Fin 4096) (hi : i.val = 2048 * (t.val % 2) + a.val) : ((outsAt0 m c t.val t.isLt).1 (ix2 a d) : EReal) = attended m c b i h d := by
  rw [point]
  show soft _ _ _ (pos a) d = _
  refine soft_base2 _ _ _ _ _ _ _ _ _ _ (fun l => ?_) (keyBlock_lanes m c t b h hb hh) (fun n j => chunk_value m c t b h hb hh n j d)
  refine Eq.trans ?_ (staged0 m c t b h hb hh a l i hi)
  unfold queries
  refine congrArg (iblk m c 0 t) ?_
  funext x
  refine Fin.ext ?_
  fin_cases x
  · simp [LoadRect.idx, qR, blk, pos, ix2]
    omega
  · simp [LoadRect.idx, qR, blk, pos, ix2]

/-- The kernel's whole result. -/
def wholeRC (r : Fin 16384) (k : Fin 2048) : EReal :=
  attended m c ⟨r.val / 4096, by omega⟩ ⟨r.val % 4096, by omega⟩ ⟨k.val / 128, by omega⟩ ⟨k.val % 128, by omega⟩

def whole (y : S16384x2048.Idx) : EReal := wholeRC m c (y 0) (y 1)

theorem whole_at (b : Fin 4) (i : Fin 4096) (h : Fin 16) (d : Fin 128) (r : Fin 16384) (k : Fin 2048)
    (hr : r.val = 4096 * b.val + i.val) (hk : k.val = 128 * h.val + d.val) : wholeRC m c r k = attended m c b i h d := by
  unfold wholeRC
  congr 1 <;> refine Fin.ext ?_ <;> simp only <;> omega

theorem final : (dats m 0 c).arrAt 7 cfg0.N = whole m c := by
  refine (dats m 0 c).arrAt_eq_of_covers 7 (whole m c) (by decide +kernel) fun t hf y => ?_
  have hN : t.val < 128 := lt_of_lt_of_eq t.isLt (show cfg0.N = 128 from N_0)
  blk_simp
  rw [after0_7]
  obtain ⟨a, d, rfl⟩ : ∃ (a : Fin 2048) (d : Fin 128), y = ix2 a d := ⟨y 0, y 1, eq_ix2 y⟩
  refine (point_at m c t ⟨t.val / 32, by omega⟩ ⟨t.val / 2 % 16, by omega⟩ rfl rfl a d ⟨2048 * (t.val % 2) + a.val, by omega⟩ rfl).trans ?_
  refine (whole_at m c _ _ _ _ _ _ ?_ ?_).symm
  · blk_simp [idx t]
    simp only
    omega
  · blk_simp [idx t]
    simp only
    omega

end Cert.KernelIdeal.Attn
end
-- ==== Proof.Attn.Ref.lean ====
/- The reference's result at an index: the softmax of the scores against the values. -/
module

public import proofs.«01_k».proof.Proof.Gen.ReferenceIdeal.Run
public import Idealize.ShloMosaic.Lib.Pipeline.ValueKit

@[expose] public section

set_option maxRecDepth 16384

noncomputable section

namespace Cert.ReferenceIdeal.Attn

open Idealize.ShloMosaic Idealize.ShloMosaic.TcCoe Idealize.ShloMosaic.Tactic Idealize.SL.Sem
open Cert.ReferenceIdeal Cert.ReferenceIdeal.Gen

/-- The largest of finitely many, taken from the least element. -/
theorem max_fold {ι : Type} [Fintype ι] (z : EReal) (hz : z = ⊥) (f : ι → EReal) : max z (Finset.univ.fold max z f) = ⨆ k, f k := by
  subst hz
  rw [max_eq_right bot_le]
  refine eq_of_forall_ge_iff fun x => ?_
  rw [Finset.fold_max_le, iSup_le_iff]
  exact ⟨fun H k => H.2 k (Finset.mem_univ _), fun H => ⟨bot_le, fun k _ => H k⟩⟩

section vectors
variable (QN : FVec Ideal S4x4096x16x128 .f32) (QP : FVec Ideal S4x4096x16x64 .f32)
    (KN : FVec Ideal S4x4352x16x128 .f32) (KP : FVec Ideal S4x4352x64 .f32)

/-- The scores. -/
def scores : FVec Ideal S4x16x4096x4352 .f32 :=
  mulf (addf (Host.dotGeneral dot_S4x4096x16x128_S4x4352x16x128_S4x16x4096x4352_3_3_1_1_02_02 none QN KN)
      (transpose S4x16x4096x4352 [0, 3, 2, 1] (Host.dotGeneral dot_S4x4352x64_S4x4096x16x64_S4x4352x4096x16_2_3_1_12_0_0 none KP QP)
        transposes_S4x4352x4096x16_S4x16x4096x4352_0_3_2_1))
    (broadcastInDim S4x16x4096x4352 ![] bcast_S_S4x16x4096x4352 (Host.rsqrt (constant S_ .f32 0x43400000#32)))

variable (S : FVec Ideal S4x16x4096x4352 .f32)

/-- Each row's maximum. -/
def rowTop : FVec Ideal S4x16x4096 .f32 :=
  maximumf (broadcastInDim S4x16x4096 ![] bcast_S_S4x16x4096 (constant S_ .f32 0xFF800000#32))
    (Host.reduce FloatOps.maximumf S (constant S_ .f32 0xFF800000#32) reducesTo_S4x16x4096x4352_S4x16x4096_d3 h_S_)

/-- Each row's maximum, on every key. -/
def rowMax : FVec Ideal S4x16x4096x4352 .f32 :=
  broadcastInDim S4x16x4096x4352 ![0, 1, 2, 3] bcast_S4x16x4096x1_S4x16x4096x4352_0_1_2_3
    (broadcastInDim S4x16x4096x1 ![0, 1, 2] bcast_S4x16x4096_S4x16x4096x1_0_1_2 (rowTop S))

/-- Each row's total, on every key. -/
def rowSum : FVec Ideal S4x16x4096x4352 .f32 :=
  broadcastInDim S4x16x4096x4352 ![0, 1, 2, 3] bcast_S4x16x4096x1_S4x16x4096x4352_0_1_2_3
    (broadcastInDim S4x16x4096x1 ![0, 1, 2] bcast_S4x16x4096_S4x16x4096x1_0_1_2
      (Host.reduceAdd S (constant S_ .f32 0x00000000#32) reducesTo_S4x16x4096x4352_S4x16x4096_d3 h_S_))

variable (W : FVec Ideal S4x4352x16x128 .f32)

/-- Weights against values, heads put side by side. -/
def mix : FVec Ideal S16384x2048 .bf16 :=
  truncf .bf16 (shapeCast S16384x2048 (transpose S4x4096x16x128 [0, 3, 1, 2]
    (Host.dotGeneral dot_S4x4352x16x128_S4x16x4096x4352_S4x16x128x4096_1_3_3_2_02_01 none W S)
    transposes_S4x16x128x4096_S4x4096x16x128_0_3_1_2) shapeCasts_S4x4096x16x128_S16384x2048) bitsLt_bf16_f32

theorem nope_apply (b : Fin 4) (h : Fin 16) (i : Fin 4096) (j : Fin 4352) :
    Host.dotGeneral dot_S4x4096x16x128_S4x4352x16x128_S4x16x4096x4352_3_3_1_1_02_02 none QN KN (ix4 b h i j) = ∑ l : Fin 128, QN (ix4 b i h l) * KN (ix4 b j h l) := by
  pointwise

theorem pe_apply (b : Fin 4) (h : Fin 16) (i : Fin 4096) (j : Fin 4352) :
    Host.dotGeneral dot_S4x4352x64_S4x4096x16x64_S4x4352x4096x16_2_3_1_12_0_0 none KP QP (ix4 b j i h) = ∑ l : Fin 64, KP (ix3 b j l) * QP (ix4 b i h l) := by
  pointwise

theorem turn_apply (T : FVec Ideal S4x4352x4096x16 .f32) (b : Fin 4) (h : Fin 16) (i : Fin 4096) (j : Fin 4352) :
    transpose S4x16x4096x4352 [0, 3, 2, 1] T transposes_S4x4352x4096x16_S4x16x4096x4352_0_3_2_1 (ix4 b h i j) = T (ix4 b j i h) := by
  pointwise

theorem scale_apply (b : Fin 4) (h : Fin 16) (i : Fin 4096) (j : Fin 4352) :
    broadcastInDim S4x16x4096x4352 ![] bcast_S_S4x16x4096x4352 (Host.rsqrt (F := Ideal) (constant S_ .f32 0x43400000#32)) (ix4 b h i j)
      = Ideal.rsqrt (Ideal.ofBits .f32 0x43400000#32) := by
  pointwise

theorem scores_apply (b : Fin 4) (h : Fin 16) (i : Fin 4096) (j : Fin 4352) : scores QN QP KN KP (ix4 b h i j) =
    ((∑ l : Fin 128, QN (ix4 b i h l) * KN (ix4 b j h l)) + ∑ l : Fin 64, KP (ix3 b j l) * QP (ix4 b i h l)) * Ideal.rsqrt (Ideal.ofBits .f32 0x43400000#32) := by
  show (Host.dotGeneral dot_S4x4096x16x128_S4x4352x16x128_S4x16x4096x4352_3_3_1_1_02_02 none QN KN (ix4 b h i j)
    + transpose S4x16x4096x4352 [0, 3, 2, 1] _ transposes_S4x4352x4096x16_S4x16x4096x4352_0_3_2_1 (ix4 b h i j)) * broadcastInDim (s := S_) S4x16x4096x4352 ![] bcast_S_S4x16x4096x4352 _ (ix4 b h i j) = _
  rw [nope_apply, turn_apply, pe_apply, scale_apply]

theorem spread_apply (T : FVec Ideal S4x16x4096 .f32) (b : Fin 4) (h : Fin 16) (i : Fin 4096) (j : Fin 4352) :
    broadcastInDim S4x16x4096x4352 ![0, 1, 2, 3] bcast_S4x16x4096x1_S4x16x4096x4352_0_1_2_3
      (broadcastInDim S4x16x4096x1 ![0, 1, 2] bcast_S4x16x4096_S4x16x4096x1_0_1_2 T) (ix4 b h i j) = T (ix3 b h i) := by
  pointwise

theorem largest_apply (z : FVec Ideal S_ .f32) (b : Fin 4) (h : Fin 16) (i : Fin 4096) :
    Host.reduce FloatOps.maximumf S z reducesTo_S4x16x4096x4352_S4x16x4096_d3 h_S_ (ix3 b h i)
      = Finset.univ.fold max (z (Shape.Idx.first h_S_)) fun k : Fin 4352 => S (ix4 b h i k) := by
  pointwise

theorem least_apply (b : Fin 4) (h : Fin 16) (i : Fin 4096) :
    broadcastInDim S4x16x4096 ![] bcast_S_S4x16x4096 (constant (F := Ideal) S_ .f32 0xFF800000#32) (ix3 b h i) = Ideal.ofBits .f32 0xFF800000#32 := by
  pointwise

theorem larger_apply (x y : FVec Ideal S4x16x4096 .f32) (i : S4x16x4096.Idx) : maximumf x y i = max (x i) (y i) := rfl

theorem rowTop_apply (b : Fin 4) (h : Fin 16) (i : Fin 4096) : rowTop S (ix3 b h i) = ⨆ k : Fin 4352, S (ix4 b h i k) := by
  rw [rowTop, larger_apply, least_apply, largest_apply, constant_apply]
  exact max_fold _ (by simp [Ideal.ofBits, Ideal.ieee]) _

theorem rowMax_apply (b : Fin 4) (h : Fin 16) (i : Fin 4096) (j : Fin 4352) : rowMax S (ix4 b h i j) = ⨆ k : Fin 4352, S (ix4 b h i k) := by
  rw [rowMax, spread_apply, rowTop_apply]

theorem rowSum_apply (b : Fin 4) (h : Fin 16) (i : Fin 4096) (j : Fin 4352) : rowSum S (ix4 b h i j) = ∑ k : Fin 4352, S (ix4 b h i k) := by
  pointwise [rowSum]
  try simp

theorem mix_apply (b : Fin 4) (i : Fin 4096) (h : Fin 16) (d : Fin 128) (r : Fin 16384) (k : Fin 2048)
    (hr : r.val = 4096 * b.val + i.val) (hk : k.val = 128 * h.val + d.val) :
    mix S W (ix2 r k) = ∑ j : Fin 4352, W (ix4 b j h d) * S (ix4 b h i j) := by
  pointwise [mix]
  refine Finset.sum_congr rfl fun j _ => congrArg₂ (· * ·) ?_ ?_ <;> blk_ext
theorem weight_apply (x y : FVec Ideal S4x16x4096x4352 .f32) (i : S4x16x4096x4352.Idx) : Host.exp (subf x y) i = Ideal.exp (x i - y i) := rfl

theorem quot_apply (x y : FVec Ideal S4x16x4096x4352 .f32) (i : S4x16x4096x4352.Idx) : Host.divf x y i = Ideal.div (x i) (y i) := rfl

/-- The softmax of the scores against the values. -/
theorem attend_apply (b : Fin 4) (i : Fin 4096) (h : Fin 16) (d : Fin 128) (r : Fin 16384) (k : Fin 2048)
    (hr : r.val = 4096 * b.val + i.val) (hk : k.val = 128 * h.val + d.val) :
    mix (Host.divf (Host.exp (subf S (rowMax S))) (rowSum (Host.exp (subf S (rowMax S))))) W (ix2 r k) =
      ∑ j : Fin 4352, W (ix4 b j h d) * Ideal.div (Ideal.exp (S (ix4 b h i j) - ⨆ j : Fin 4352, S (ix4 b h i j)))
        (∑ j : Fin 4352, Ideal.exp (S (ix4 b h i j) - ⨆ j : Fin 4352, S (ix4 b h i j))) := by
  rw [mix_apply _ _ b i h d r k hr hk]
  refine Finset.sum_congr rfl fun j _ => ?_
  rw [quot_apply, rowSum_apply, weight_apply, rowMax_apply]
  refine congrArg (fun t => W (ix4 b j h d) * Ideal.div _ t) (Finset.sum_congr rfl fun j _ => ?_)
  rw [weight_apply, rowMax_apply]

end vectors

variable (m : (ℓ : Loc nD τ sig) → Buf (Elt Ideal) ℓ) (c : Dev nD)

/-- Latent and context keys without positions. -/
def keysN : FVec Ideal S4x4352x16x128 .f32 :=
  concatenate S4x4352x16x128 1 [⟨S4x4096x16x128, m ((c : Thread nD τ).loc main_arg2)⟩, ⟨S4x256x16x128, m ((c : Thread nD τ).loc main_arg5)⟩] concatenates_S4x4096x16x128_S4x256x16x128_S4x4352x16x128_d1
/-- Latent and context keys with positions. -/
def keysP : FVec Ideal S4x4352x64 .f32 :=
  concatenate S4x4352x64 1 [⟨S4x4096x64, m ((c : Thread nD τ).loc main_arg3)⟩, ⟨S4x256x64, m ((c : Thread nD τ).loc main_arg6)⟩] concatenates_S4x4096x64_S4x256x64_S4x4352x64_d1
/-- Latent and context values. -/
def values : FVec Ideal S4x4352x16x128 .f32 :=
  concatenate S4x4352x16x128 1 [⟨S4x4096x16x128, m ((c : Thread nD τ).loc main_arg4)⟩, ⟨S4x256x16x128, m ((c : Thread nD τ).loc main_arg7)⟩] concatenates_S4x4096x16x128_S4x256x16x128_S4x4352x16x128_d1
/-- The reference's scores. -/
def score : FVec Ideal S4x16x4096x4352 .f32 := scores (m ((c : Thread nD τ).loc main_arg0)) (m ((c : Thread nD τ).loc main_arg1)) (keysN m c) (keysP m c)

theorem result_eq : Value.res_main_v24 m c =
    mix (Host.divf (Host.exp (subf (score m c) (rowMax (score m c)))) (rowSum (Host.exp (subf (score m c) (rowMax (score m c)))))) (values m c) := by
  sl_kernel_rfl

end Cert.ReferenceIdeal.Attn
end
-- ==== Proof.Attn.Same.lean ====
/- The reference's result, in the arguments. -/
module

public import proofs.«01_k».proof.Proof.Attn.Ref
public import proofs.«01_k».proof.Proof.Attn.Score

@[expose] public section

set_option maxRecDepth 16384

noncomputable section

namespace Cert.ReferenceIdeal.Attn

open Idealize.ShloMosaic Idealize.ShloMosaic.TcCoe Idealize.ShloMosaic.Tactic Idealize.SL.Sem
open Cert.ReferenceIdeal Cert.ReferenceIdeal.Gen Cert.Attn

theorem joined4 (x : FVec Ideal S4x4096x16x128 .f32) (y : FVec Ideal S4x256x16x128 .f32) (b : Fin 4) (j : Fin 4352) (h : Fin 16) (l : Fin 128) :
    (concatenate S4x4352x16x128 1 [⟨S4x4096x16x128, x⟩, ⟨S4x256x16x128, y⟩] concatenates_S4x4096x16x128_S4x256x16x128_S4x4352x16x128_d1 (ix4 b j h l) : EReal)
      = joined (fun j => (x (ix4 b j h l) : EReal)) (fun j => (y (ix4 b j h l) : EReal)) j := by
  pointwise
  unfold joined
  split <;> blk_ext

theorem joined3 (x : FVec Ideal S4x4096x64 .f32) (y : FVec Ideal S4x256x64 .f32) (b : Fin 4) (j : Fin 4352) (l : Fin 64) :
    (concatenate S4x4352x64 1 [⟨S4x4096x64, x⟩, ⟨S4x256x64, y⟩] concatenates_S4x4096x64_S4x256x64_S4x4352x64_d1 (ix3 b j l) : EReal)
      = joined (fun j => (x (ix3 b j l) : EReal)) (fun j => (y (ix3 b j l) : EReal)) j := by
  pointwise
  unfold joined
  split <;> blk_ext

theorem bits_192 : Ideal.ofBits .f32 0x43400000#32 = ((192 : ℝ) : EReal) := by
  simp [Ideal.ofBits, Ideal.ieee]
  rw [← EReal.coe_mul]
  norm_num

variable (m : (ℓ : Loc nD τ sig) → Buf (Elt Ideal) ℓ) (c : Dev nD)

section args
variable (q kx : S4x4096x16x128.Idx → EReal) (r : S4x4096x16x64.Idx → EReal) (px : S4x4096x64.Idx → EReal)
  (kc : S4x256x16x128.Idx → EReal) (pc : S4x256x64.Idx → EReal) (w : S4x4096x16x128.Idx → EReal) (wc : S4x256x16x128.Idx → EReal)

/-- Attention of the query at batch `b`, position `i` and head `h`, lane `d`, over argument arrays. -/
def attend (b : Fin 4) (i : Fin 4096) (h : Fin 16) (d : Fin 128) : EReal :=
  baseE (fun l => q (ix4 b i h l)) (fun l => r (ix4 b i h l))
    (fun j l => joined (fun j => kx (ix4 b j h l)) (fun j => kc (ix4 b j h l)) j)
    (fun j l => joined (fun j => px (ix3 b j l)) (fun j => pc (ix3 b j l)) j)
    (fun j => joined (fun j => w (ix4 b j h d)) (fun j => wc (ix4 b j h d)) j)
end args

theorem score_at (b : Fin 4) (h : Fin 16) (i : Fin 4096) (j : Fin 4352) : (score m c (ix4 b h i j) : EReal) =
    plain (fun l => (m ((c : Thread nD τ).loc main_arg0) : S4x4096x16x128.Idx → EReal) (ix4 b i h l))
      (fun l => joined (fun j => (m ((c : Thread nD τ).loc main_arg2) : S4x4096x16x128.Idx → EReal) (ix4 b j h l))
        (fun j => (m ((c : Thread nD τ).loc main_arg5) : S4x256x16x128.Idx → EReal) (ix4 b j h l)) j)
      (fun l => (m ((c : Thread nD τ).loc main_arg1) : S4x4096x16x64.Idx → EReal) (ix4 b i h l))
      (fun l => joined (fun j => (m ((c : Thread nD τ).loc main_arg3) : S4x4096x64.Idx → EReal) (ix3 b j l))
        (fun j => (m ((c : Thread nD τ).loc main_arg6) : S4x256x64.Idx → EReal) (ix3 b j l)) j) * Ideal.rsqrt (192 : ℝ) := by
  refine (scores_apply _ _ _ _ b h i j).trans ?_
  rw [bits_192]
  refine congrArg (· * Ideal.rsqrt (192 : ℝ)) (congrArg₂ (· + ·) (Finset.sum_congr rfl fun l _ => ?_) (Finset.sum_congr rfl fun l _ => ?_))
  · exact congrArg _ (joined4 _ _ b j h l)
  · exact congrArg (· * _) (joined3 _ _ b j l)

theorem result_at (b : Fin 4) (i : Fin 4096) (h : Fin 16) (d : Fin 128) (r : Fin 16384) (k : Fin 2048)
    (hr : r.val = 4096 * b.val + i.val) (hk : k.val = 128 * h.val + d.val) : (Value.res_main_v24 m c (ix2 r k) : EReal) =
    attend (m ((c : Thread nD τ).loc main_arg0)) (m ((c : Thread nD τ).loc main_arg2)) (m ((c : Thread nD τ).loc main_arg1))
      (m ((c : Thread nD τ).loc main_arg3)) (m ((c : Thread nD τ).loc main_arg5)) (m ((c : Thread nD τ).loc main_arg6))
      (m ((c : Thread nD τ).loc main_arg4)) (m ((c : Thread nD τ).loc main_arg7)) b i h d := by
  rw [result_eq]
  refine (attend_apply _ _ b i h d r k hr hk).trans ?_
  unfold attend baseE
  have hs := score_at m c b h i
  rw [iSup_congr hs]
  refine Finset.sum_congr rfl fun j _ => congrArg₂ (· * ·) (joined4 _ _ b j h d) ?_
  refine congrArg₂ (fun s t : EReal => Ideal.div (Ideal.exp (s - _)) t) (hs j) (Finset.sum_congr rfl fun j _ => ?_)
  exact congrArg (fun s : EReal => Ideal.exp (s - _)) (hs j)

end Cert.ReferenceIdeal.Attn
end
-- ==== Proof.Attn.Finite.lean ====
/- What the precondition says: the queries and the keys are finite. -/
module

public import proofs.«01_k».proof.Defs
public import proofs.«01_k».proof.Proof.Attn.Score
public import Idealize.ShloMosaic.Lib.ReduceAll
public import Idealize.ShloMosaic.Lib.Pointwise

@[expose] public section

noncomputable section

namespace Cert.Attn

open Idealize.ShloMosaic Cert.Pre_qk_finite

theorem bcast_S4x4096x16x128 : S_.BroadcastsInDim S4x4096x16x128 (![] : Fin 0 → Fin S4x4096x16x128.rank) := by decide
theorem bcast_S4x4096x16x64 : S_.BroadcastsInDim S4x4096x16x64 (![] : Fin 0 → Fin S4x4096x16x64.rank) := by decide
theorem bcast_S4x4096x64 : S_.BroadcastsInDim S4x4096x64 (![] : Fin 0 → Fin S4x4096x64.rank) := by decide
theorem bcast_S4x256x16x128 : S_.BroadcastsInDim S4x256x16x128 (![] : Fin 0 → Fin S4x256x16x128.rank) := by decide
theorem bcast_S4x256x64 : S_.BroadcastsInDim S4x256x64 (![] : Fin 0 → Fin S4x256x64.rank) := by decide
theorem reduces_S4x4096x16x128 : S4x4096x16x128.ReducesTo [0, 1, 2, 3] S_ := by decide
theorem reduces_S4x4096x16x64 : S4x4096x16x64.ReducesTo [0, 1, 2, 3] S_ := by decide
theorem reduces_S4x4096x64 : S4x4096x64.ReducesTo [0, 1, 2] S_ := by decide
theorem reduces_S4x256x16x128 : S4x256x16x128.ReducesTo [0, 1, 2, 3] S_ := by decide
theorem reduces_S4x256x64 : S4x256x64.ReducesTo [0, 1, 2] S_ := by decide
theorem numel_S_ : 0 < S_.numel := by decide

/-- The shapes of the precondition fit. -/
instance fits : Cert.Pre_qk_finite.Facts where
  bcast_S_S4x4096x16x128 := bcast_S4x4096x16x128
  reducesTo_S4x4096x16x128_S_d0_1_2_3 := reduces_S4x4096x16x128
  h_S_ := numel_S_
  bcast_S_S4x4096x16x64 := bcast_S4x4096x16x64
  reducesTo_S4x4096x16x64_S_d0_1_2_3 := reduces_S4x4096x16x64
  bcast_S_S4x4096x64 := bcast_S4x4096x64
  reducesTo_S4x4096x64_S_d0_1_2 := reduces_S4x4096x64
  bcast_S_S4x256x16x128 := bcast_S4x256x16x128
  reducesTo_S4x256x16x128_S_d0_1_2_3 := reduces_S4x256x16x128
  bcast_S_S4x256x64 := bcast_S4x256x64
  reducesTo_S4x256x64_S_d0_1_2 := reduces_S4x256x64

theorem top_bits : Ideal.ofBits .f32 0x7F800000#32 = ⊤ := by simp [Ideal.ofBits, Ideal.ieee]

/-- An extended real of absolute value below `⊤` is a real. -/
theorem real_of_lt (x : EReal) (h : max x (-x) < ⊤) : Real? x := by
  obtain ⟨h1, h2⟩ := max_lt_iff.1 h
  refine ⟨x.toReal, (EReal.coe_toReal h1.ne ?_).symm⟩
  rintro rfl
  exact absurd h2 (by simp)

/-- An array every element of which is found below infinity is an array of reals. -/
theorem all_real {s : Shape} {axes : List (Fin s.rank)} (x : FVec Ideal s .f32) (hb : S_.BroadcastsInDim s (![] : Fin 0 → Fin s.rank)) (hr : s.ReducesTo axes S_)
    (j : S_.Idx)
    (e : Host.reduce IntOp.andi (cmpf .olt (Host.absf x) (broadcastInDim s ![] hb (constant (F := Ideal) S_ .f32 0x7F800000#32))) (constantI S_ 1 1#1) hr numel_S_ j = 1#1)
    (i : s.Idx) : Real? (x i) := by
  haveI : Subsingleton S_.Idx := ⟨fun a b => funext fun k => k.elim0⟩
  have h := Host.reduce_andi_all _ _ hr numel_S_ j e i
  have h' : BitVec.ofBool (decide (max (x i : EReal) (-(x i : EReal)) < Ideal.ofBits .f32 0x7F800000#32)) = 1#1 := h
  rw [top_bits] at h'
  by_cases hx : max (x i : EReal) (-(x i : EReal)) < ⊤
  · exact real_of_lt _ hx
  · rw [decide_eq_false hx] at h'
    exact absurd h' (by decide)

theorem fn_finite (a0 : FVec Ideal S4x4096x16x128 .f32) (a1 : FVec Ideal S4x4096x16x64 .f32) (a2 : FVec Ideal S4x4096x16x128 .f32)
    (a3 : FVec Ideal S4x4096x64 .f32) (a4 : FVec Ideal S4x4096x16x128 .f32) (a5 : FVec Ideal S4x256x16x128 .f32) (a6 : FVec Ideal S4x256x64 .f32)
    (a7 : FVec Ideal S4x256x16x128 .f32) (j : S_.Idx) (h : Cert.Pre_qk_finite.fn (F := Ideal) a0 a1 a2 a3 a4 a5 a6 a7 j = 1#1) :
    (∀ i, Real? (a0 i)) ∧ (∀ i, Real? (a1 i)) ∧ (∀ i, Real? (a2 i)) ∧ (∀ i, Real? (a3 i)) ∧ (∀ i, Real? (a5 i)) ∧ ∀ i, Real? (a6 i) := by
  obtain ⟨h, h6⟩ := IntOp.andi_eq_one.1 h
  obtain ⟨h, h5⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real a0 _ reduces_S4x4096x16x128 j h0, all_real a1 _ reduces_S4x4096x16x64 j h1, all_real a2 _ reduces_S4x4096x16x128 j h2,
    all_real a3 _ reduces_S4x4096x64 j h3, all_real a5 _ reduces_S4x256x16x128 j h5, all_real a6 _ reduces_S4x256x64 j h6⟩

end Cert.Attn
end
-- ==== Proof.Attn.Equal.lean ====
/- Both programs give the same array. -/
module

public import proofs.«01_k».proof.Proof.Attn.Result
public import proofs.«01_k».proof.Proof.Attn.Same
public import proofs.«01_k».proof.Proof.Attn.Finite

@[expose] public section

set_option maxRecDepth 16384

noncomputable section

namespace Cert.Attn

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- With finite queries and keys the kernel's attention is the reference's. -/
theorem attended_eq (hpre : Cert.Pre_KernelIdeal_qk_finite m) (b : Fin 4) (i : Fin 4096) (h : Fin 16) (d : Fin 128) :
    KernelIdeal.Attn.attended m c b i h d = ReferenceIdeal.Attn.attend (KernelIdeal.Attn.qn m c) (KernelIdeal.Attn.knx m c)
      (KernelIdeal.Attn.qp m c) (KernelIdeal.Attn.kpx m c) (KernelIdeal.Attn.knc m c) (KernelIdeal.Attn.kpc m c)
      (KernelIdeal.Attn.vx m c) (KernelIdeal.Attn.vc m c) b i h d := by
  obtain ⟨h0, h1, h2, h3, h5, h6⟩ := fn_finite _ _ _ _ _ _ _ _ (fun k => k.elim0) (congrFun (hpre c) _)
  exact base2_eq _ _ _ _ _ (fun l => h0 _)
    (fun j l => joined_all _ _ (fun j => h2 _) (fun j => h5 _) j) (fun l => h1 _)
    (fun j l => joined_all _ _ (fun j => h3 _) (fun j => h6 _) j)

/-- The two arrays agree. -/
theorem whole_eq (hpre : Cert.Pre_KernelIdeal_qk_finite m)
    (e0 : m' ((c : Thread ReferenceIdeal.nD ReferenceIdeal.τ).loc ReferenceIdeal.main_arg0) = m ((c : Thread KernelIdeal.nD KernelIdeal.τ).loc KernelIdeal.main_arg0))
    (e1 : m' ((c : Thread ReferenceIdeal.nD ReferenceIdeal.τ).loc ReferenceIdeal.main_arg1) = m ((c : Thread KernelIdeal.nD KernelIdeal.τ).loc KernelIdeal.main_arg1))
    (e2 : m' ((c : Thread ReferenceIdeal.nD ReferenceIdeal.τ).loc ReferenceIdeal.main_arg2) = m ((c : Thread KernelIdeal.nD KernelIdeal.τ).loc KernelIdeal.main_arg2))
    (e3 : m' ((c : Thread ReferenceIdeal.nD ReferenceIdeal.τ).loc ReferenceIdeal.main_arg3) = m ((c : Thread KernelIdeal.nD KernelIdeal.τ).loc KernelIdeal.main_arg3))
    (e4 : m' ((c : Thread ReferenceIdeal.nD ReferenceIdeal.τ).loc ReferenceIdeal.main_arg4) = m ((c : Thread KernelIdeal.nD KernelIdeal.τ).loc KernelIdeal.main_arg4))
    (e5 : m' ((c : Thread ReferenceIdeal.nD ReferenceIdeal.τ).loc ReferenceIdeal.main_arg5) = m ((c : Thread KernelIdeal.nD KernelIdeal.τ).loc KernelIdeal.main_arg5))
    (e6 : m' ((c : Thread ReferenceIdeal.nD ReferenceIdeal.τ).loc ReferenceIdeal.main_arg6) = m ((c : Thread KernelIdeal.nD KernelIdeal.τ).loc KernelIdeal.main_arg6))
    (e7 : m' ((c : Thread ReferenceIdeal.nD ReferenceIdeal.τ).loc ReferenceIdeal.main_arg7) = m ((c : Thread KernelIdeal.nD KernelIdeal.τ).loc KernelIdeal.main_arg7)) :
    ReferenceIdeal.Value.res_main_v24 m' c = KernelIdeal.Attn.whole m c := by
  funext y
  obtain ⟨r, k, rfl⟩ : ∃ (r : Fin 16384) (k : Fin 2048), y = ix2 r k := ⟨y 0, y 1, eq_ix2 y⟩
  refine (ReferenceIdeal.Attn.result_at m' c ⟨r.val / 4096, by omega⟩ ⟨r.val % 4096, by omega⟩ ⟨k.val / 128, by omega⟩ ⟨k.val % 128, by omega⟩ r k
    (by simp only; omega) (by simp only; omega)).trans ?_
  rw [e0, e1, e2, e3, e4, e5, e6, e7]
  exact (attended_eq m c hpre _ _ _ _).symm

end Cert.Attn
end
-- ==== Proof.Layer.Down.lean ====
/- The projection back to the model's width: the product with the weights, scaled by the batch's gate, added to the residual
   stream. -/
module

public import proofs.«01_k».proof.Proof.Gen.DownIdeal.Value
public import proofs.«01_k».proof.Proof.Gen.DownReferenceIdeal.Run
public import Idealize.ShloMosaic.Lib.Pipeline.ValueKit

@[expose] public section

set_option maxRecDepth 16384

noncomputable section

namespace Cert.DownLayer

open Idealize.ShloMosaic

/-- One entry: the residual stream's, and the gate times a row against a column. -/
def gated {n : Nat} (x g : EReal) (h w : Fin n → EReal) : EReal := x + g * ∑ l, h l * w l

end Cert.DownLayer

namespace Cert.DownIdeal.Layer

open Idealize.ShloMosaic Idealize.ShloMosaic.TcCoe Idealize.ShloMosaic.Tactic Idealize.SL.Sem
open Cert.DownIdeal Cert.DownIdeal.Gen Cert.DownLayer

variable (m : (ℓ : Loc nD τ sig) → Buf (Elt Ideal) ℓ) (c : Dev nD)

/-- The hidden rows. -/
def hid : S4x4096x5632.Idx → EReal := m ((c : Thread nD τ).loc main_arg0)
/-- The residual stream. -/
def x : S4x4096x2048.Idx → EReal := m ((c : Thread nD τ).loc main_arg1)
/-- The batches' modulation. -/
def mods : S4x12288.Idx → EReal := m ((c : Thread nD τ).loc main_arg2)
/-- The layers' weights. -/
def w : S2x5632x2048.Idx → EReal := m ((c : Thread nD τ).loc main_arg3)

/-- The result, batches stacked. -/
def wholeRC (r : Fin 16384) (k : Fin 2048) : EReal :=
  gated (x m c (ix3 ⟨r.val / 4096, by omega⟩ ⟨r.val % 4096, by omega⟩ k)) (mods m c (ix2 ⟨r.val / 4096, by omega⟩ ⟨10240 + k.val, by omega⟩))
    (fun l => hid m c (ix3 ⟨r.val / 4096, by omega⟩ ⟨r.val % 4096, by omega⟩ l)) (fun l => w m c (ix3 0 l k))

def whole (y : S16384x2048.Idx) : EReal := wholeRC m c (y 0) (y 1)

theorem hid_apply (r : Fin 16384) (l : Fin 5632) :
    (V m c main_v1 : S16384x5632.Idx → EReal) (ix2 r l) = hid m c (ix3 ⟨r.val / 4096, by omega⟩ ⟨r.val % 4096, by omega⟩ l) := by
  entry_read
  pointwise
  show hid m c _ = _
  blk_ext

theorem w_apply (b : Fin 2) (l : Fin 5632) (k : Fin 2048) : (V m c main_v2 : S2x5632x2048.Idx → EReal) (ix3 b l k) = w m c (ix3 b l k) := by
  entry_read
  pointwise
  rfl

theorem x_apply (r : Fin 16384) (k : Fin 2048) :
    (V m c main_v3 : S16384x2048.Idx → EReal) (ix2 r k) = x m c (ix3 ⟨r.val / 4096, by omega⟩ ⟨r.val % 4096, by omega⟩ k) := by
  entry_read
  pointwise
  show x m c _ = _
  blk_ext

theorem mods_apply (b : Fin 8) (h : b.val < 4) (k : Fin 12288) :
    (V m c main_v6 : S8x1x12288.Idx → EReal) (ix3 b 0 k) = mods m c (ix2 ⟨b.val, h⟩ k) := by
  entry_read
  pointwise
  rw [dif_pos (by omega)]
  show mods m c _ = _
  blk_ext

/-- The blocks a point stages. -/
theorem idx (t : Fin cfg0.N) :
    (win0_0.index t 0 = t.val / 4 ∧ win0_0.index t 1 = 0) ∧
    (win0_1.index t 0 = 0 ∧ win0_1.index t 1 = 0 ∧ win0_1.index t 2 = t.val % 4) ∧
    (win0_2.index t 0 = t.val / 4 ∧ win0_2.index t 1 = t.val % 4) ∧
    (win0_3.index t 0 = t.val / 16 ∧ win0_3.index t 1 = 0 ∧ win0_3.index t 2 = 20 + t.val % 4) ∧
    (win0_4.index t 0 = t.val / 4 ∧ win0_4.index t 1 = t.val % 4) := by
  revert t
  decide +kernel

variable (t : Fin cfg0.N)

theorem staged0 (a : Fin 1024) (r : Fin 16384) (hr : r.val = 1024 * (t.val / 4) + a.val) (l : Fin 5632) :
    (iblk m c 0 t : S1024x5632.Idx → EReal) (ix2 a l) = hid m c (ix3 ⟨r.val / 4096, by omega⟩ ⟨r.val % 4096, by omega⟩ l) := by
  refine Eq.trans ?_ (hid_apply m c r l)
  blk_ext [iblk, idx t]

theorem staged1 (j : Fin 512) (k : Fin 2048) (hk : k.val = 512 * (t.val % 4) + j.val) (l : Fin 5632) : (iblk m c 1 t : S1x5632x512.Idx → EReal) (ix3 0 l j) = w m c (ix3 0 l k) := by
  refine Eq.trans ?_ (w_apply m c 0 l k)
  blk_ext [iblk, idx t]

theorem staged2 (a : Fin 1024) (j : Fin 512) (r : Fin 16384) (hr : r.val = 1024 * (t.val / 4) + a.val) (k : Fin 2048) (hk : k.val = 512 * (t.val % 4) + j.val) :
    (iblk m c 2 t : S1024x512.Idx → EReal) (ix2 a j) = x m c (ix3 ⟨r.val / 4096, by omega⟩ ⟨r.val % 4096, by omega⟩ k) := by
  refine Eq.trans ?_ (x_apply m c r k)
  blk_ext [iblk, idx t]

theorem staged3 (a : Fin 1024) (j : Fin 512) (r : Fin 16384) (hr : r.val = 1024 * (t.val / 4) + a.val) (k : Fin 2048) (hk : k.val = 512 * (t.val % 4) + j.val) :
    (iblk m c 3 t : S1x1x512.Idx → EReal) (ix3 0 0 j) = mods m c (ix2 ⟨r.val / 4096, by omega⟩ ⟨10240 + k.val, by omega⟩) := by
  refine Eq.trans ?_ (mods_apply m c ⟨r.val / 4096, by omega⟩ (by simp only; omega) ⟨10240 + k.val, by omega⟩)
  blk_ext [iblk, idx t]

omit m c t in
theorem block_apply (X : FVec Ideal S1024x512 .f32) (G : FVec Ideal S1x1x512 .f32) (H : FVec Ideal S1024x5632 .bf16)
    (W : FVec Ideal S1x5632x512 .bf16) (a : Fin 1024) (j : Fin 512) :
    (k0_pay1 (F := Ideal) X G H W (ix2 a j) : EReal) = gated (X (ix2 a j)) (G (ix3 0 0 j)) (fun l => H (ix2 a l)) (fun l => W (ix3 0 l j)) := by
  pointwise [k0_pay1]
  rfl

omit t in
theorem final : (dats m 0 c).arrAt 4 cfg0.N = whole m c := by
  refine (dats m 0 c).arrAt_eq_of_covers 4 (whole m c) (by decide +kernel) fun t hf y => ?_
  have hN : t.val < 64 := lt_of_lt_of_eq t.isLt (show cfg0.N = 64 from N_0)
  blk_simp
  rw [after0_4]
  frame_out
  obtain ⟨a, j, rfl⟩ : ∃ (a : Fin 1024) (j : Fin 512), y = ix2 a j := ⟨y 0, y 1, eq_ix2 y⟩
  rw [block_apply]
  have hr : 1024 * (t.val / 4) + a.val < 16384 := by omega
  have hk : 512 * (t.val % 4) + j.val < 2048 := by omega
  rw [staged2 m c t a j ⟨_, hr⟩ rfl ⟨_, hk⟩ rfl, staged3 m c t a j ⟨_, hr⟩ rfl ⟨_, hk⟩ rfl,
    funext (staged0 m c t a ⟨_, hr⟩ rfl), funext (staged1 m c t j ⟨_, hk⟩ rfl)]
  show wholeRC m c ⟨_, hr⟩ ⟨_, hk⟩ = wholeRC m c _ _
  refine congrArg₂ (wholeRC m c) (Fin.ext ?_) (Fin.ext ?_) <;> blk_simp [idx t] <;> simp only <;> omega

end Cert.DownIdeal.Layer

namespace Cert.DownReferenceIdeal.Layer

open Idealize.ShloMosaic Idealize.ShloMosaic.TcCoe Idealize.ShloMosaic.Tactic Idealize.SL.Sem
open Cert.DownReferenceIdeal Cert.DownReferenceIdeal.Gen Cert.DownLayer

variable (H : FVec Ideal S4x4096x5632 .f32) (X : FVec Ideal S4x4096x2048 .f32) (M : FVec Ideal S4x12288 .f32) (W : FVec Ideal S2x5632x2048 .f32)

/-- The hidden rows against the first layer's weights. -/
def product : FVec Ideal S4x4096x2048 .f32 :=
  Host.dotGeneral dot_S4x4096x5632_S5632x2048_S4x4096x2048_2_0_01_1_n_n none H
    (shapeCast _ (extractStridedSlice S1x5632x2048 ![0, 0, 0] W slices_S2x5632x2048_S1x5632x2048_0_0_0) shapeCasts_S1x5632x2048_S5632x2048)

/-- The residual stream and the gated product. -/
def result : FVec Ideal S16384x2048 .f32 :=
  shapeCast _ (addf X (mulf (broadcastInDim S4x4096x2048 ![0, 1, 2] bcast_S4x1x2048_S4x4096x2048_0_1_2
      (broadcastInDim S4x1x2048 ![0, 2] bcast_S4x2048_S4x1x2048_0_2 (extractStridedSlice S4x2048 ![0, 10240] M slices_S4x12288_S4x2048_0_10240)))
    (product H W))) shapeCasts_S4x4096x2048_S16384x2048

theorem product_apply (b : Fin 4) (i : Fin 4096) (k : Fin 2048) :
    (product H W (ix3 b i k) : EReal) = ∑ l : Fin 5632, (H (ix3 b i l) : EReal) * W (ix3 0 l k) := by
  pointwise [product]

theorem result_apply (r : Fin 16384) (k : Fin 2048) : (result H X M W (ix2 r k) : EReal)
    = gated (X (ix3 ⟨r.val / 4096, by omega⟩ ⟨r.val % 4096, by omega⟩ k)) (M (ix2 ⟨r.val / 4096, by omega⟩ ⟨10240 + k.val, by omega⟩))
      (fun l => H (ix3 ⟨r.val / 4096, by omega⟩ ⟨r.val % 4096, by omega⟩ l)) (fun l => W (ix3 0 l k)) := by
  pointwise [result]
  exact congrArg (fun s : EReal => X _ + M _ * s) (product_apply H W _ _ k)

end Cert.DownReferenceIdeal.Layer

namespace Cert.DownLayer

open Idealize.ShloMosaic Idealize.ShloMosaic.TcCoe Idealize.SL.Sem

/-- Both programs give the same rows. -/
theorem whole_eq (m : (ℓ : Loc DownIdeal.nD DownIdeal.τ DownIdeal.sig) → Buf (Elt Ideal) ℓ)
    (m' : (ℓ : Loc DownReferenceIdeal.nD DownReferenceIdeal.τ DownReferenceIdeal.sig) → Buf (Elt Ideal) ℓ) (c : Dev DownIdeal.nD)
    (e0 : m' ((c : Thread DownReferenceIdeal.nD DownReferenceIdeal.τ).loc DownReferenceIdeal.main_arg0) = m ((c : Thread DownIdeal.nD DownIdeal.τ).loc DownIdeal.main_arg0))
    (e1 : m' ((c : Thread DownReferenceIdeal.nD DownReferenceIdeal.τ).loc DownReferenceIdeal.main_arg1) = m ((c : Thread DownIdeal.nD DownIdeal.τ).loc DownIdeal.main_arg1))
    (e2 : m' ((c : Thread DownReferenceIdeal.nD DownReferenceIdeal.τ).loc DownReferenceIdeal.main_arg2) = m ((c : Thread DownIdeal.nD DownIdeal.τ).loc DownIdeal.main_arg2))
    (e3 : m' ((c : Thread DownReferenceIdeal.nD DownReferenceIdeal.τ).loc DownReferenceIdeal.main_arg3) = m ((c : Thread DownIdeal.nD DownIdeal.τ).loc DownIdeal.main_arg3)) :
    DownReferenceIdeal.Layer.result (m' ((c : Thread DownReferenceIdeal.nD DownReferenceIdeal.τ).loc DownReferenceIdeal.main_arg0))
      (m' ((c : Thread DownReferenceIdeal.nD DownReferenceIdeal.τ).loc DownReferenceIdeal.main_arg1))
      (m' ((c : Thread DownReferenceIdeal.nD DownReferenceIdeal.τ).loc DownReferenceIdeal.main_arg2))
      (m' ((c : Thread DownReferenceIdeal.nD DownReferenceIdeal.τ).loc DownReferenceIdeal.main_arg3)) = DownIdeal.Layer.whole m c := by
  rw [e0, e1, e2, e3]
  funext y
  obtain ⟨r, k, rfl⟩ : ∃ (r : Fin 16384) (k : Fin 2048), y = ix2 r k := ⟨y 0, y 1, eq_ix2 y⟩
  exact DownReferenceIdeal.Layer.result_apply _ _ _ _ r k

end Cert.DownLayer
end
-- ==== Proof.Layer.Rms.lean ====
/- A row divided by its root mean square, weighted; and such a row scaled and moved. -/
module

public import Idealize.ShloMosaic.PureOps.Ideal
public import Idealize.ShloMosaic.Lib.Pipeline.ValueKit

@[expose] public section

noncomputable section

namespace Cert.Layer

open Idealize.ShloMosaic

/-- What a row is multiplied by: one over the root of its mean square, a small number added. -/
def rootMean (x : Fin 2048 → EReal) : EReal :=
  Ideal.rsqrt (Ideal.div (∑ l, x l * x l) (Ideal.ofBits .f32 0x45000000#32) + Ideal.ofBits .f32 0x358637BD#32)

/-- Lane `k` of the row normalised, weighted by `g`. -/
def rms (x g : Fin 2048 → EReal) (k : Fin 2048) : EReal := (x k * rootMean x) * g k

/-- Lane `k` of the normalised row, scaled by one more than `s` and moved by `t`. -/
def moved (x g s t : Fin 2048 → EReal) (k : Fin 2048) : EReal := rms x g k * (1 + s k) + t k

/-- An index of a rectangle that is the whole buffer. -/
theorem idx_whole {s : Shape} {off : Fin s.rank → Nat} (inb : ∀ a, off a + s.size a ≤ s.size a) (h : ∀ a, off a = 0) (j : s.Idx) :
    (Rect.unit (s := s) off s.size inb).toLoadRect.idx j = j :=
  funext fun a => Fin.ext ((Rect.idx_unit_val off s.size inb j a).trans (by rw [h a, Nat.zero_add]))

end Cert.Layer
end
-- ==== Proof.Layer.Norm.lean ====
/- The final normalisation: both programs normalise every row of the residual stream. -/
module

public import proofs.«01_k».proof.Proof.Gen.NormIdeal.Value
public import proofs.«01_k».proof.Proof.Gen.NormReferenceIdeal.Run
public import proofs.«01_k».proof.Proof.Layer.Rms
public import Idealize.ShloMosaic.Lib.Pipeline.ValueKit

@[expose] public section

set_option maxRecDepth 16384

noncomputable section

namespace Cert.NormIdeal.Layer

open Idealize.ShloMosaic Idealize.ShloMosaic.TcCoe Idealize.ShloMosaic.Tactic Idealize.SL.Sem
open Cert.NormIdeal Cert.NormIdeal.Gen Cert.Layer

variable (m : (ℓ : Loc nD τ sig) → Buf (Elt Ideal) ℓ) (c : Dev nD)

/-- The residual stream. -/
def x : S4x4096x2048.Idx → EReal := m ((c : Thread nD τ).loc main_arg0)
/-- The weights. -/
def g : S2048.Idx → EReal := m ((c : Thread nD τ).loc main_arg1)

/-- The normalised rows, batches stacked. -/
def wholeRC (r : Fin 16384) (k : Fin 2048) : EReal :=
  rms (fun l => x m c (ix3 ⟨r.val / 4096, by omega⟩ ⟨r.val % 4096, by omega⟩ l)) (fun l => g m c (ix1 l)) k

def whole (y : S16384x2048.Idx) : EReal := wholeRC m c (y 0) (y 1)

theorem rows_apply (r : Fin 16384) (k : Fin 2048) :
    (V m c main_v0 : S16384x2048.Idx → EReal) (ix2 r k) = x m c (ix3 ⟨r.val / 4096, by omega⟩ ⟨r.val % 4096, by omega⟩ k) := by
  entry_read
  pointwise
  show x m c _ = _
  blk_ext

theorem weights_apply (k : Fin 2048) : (V m c main_v1 : S1x2048.Idx → EReal) (ix2 0 k) = g m c (ix1 k) := by
  entry_read
  pointwise
  show g m c _ = _
  blk_ext

/-- The blocks a point stages. -/
theorem idx (t : Fin cfg0.N) :
    (win0_0.index t 0 = t.val ∧ win0_0.index t 1 = 0) ∧ (win0_1.index t 0 = 0 ∧ win0_1.index t 1 = 0) ∧
    (win0_2.index t 0 = t.val ∧ win0_2.index t 1 = 0) := by
  revert t
  decide +kernel

theorem staged0 (t : Fin cfg0.N) (a : Fin 512) (l : Fin 2048) (r : Fin 16384) (hr : r.val = 512 * t.val + a.val) :
    (iblk m c 0 t : S512x2048.Idx → EReal) (ix2 a l) = x m c (ix3 ⟨r.val / 4096, by omega⟩ ⟨r.val % 4096, by omega⟩ l) := by
  refine Eq.trans ?_ (rows_apply m c r l)
  blk_ext [iblk, idx t]

theorem staged1 (t : Fin cfg0.N) (l : Fin 2048) : (iblk m c 1 t : S1x2048.Idx → EReal) (ix2 0 l) = g m c (ix1 l) := by
  refine Eq.trans ?_ (weights_apply m c l)
  blk_ext [iblk, idx t]

theorem block_apply (X : FVec Ideal S512x2048 .f32) (G : FVec Ideal S1x2048 .f32) (a : Fin 512) (k : Fin 2048) :
    (k0_pay1 (F := Ideal) X G (ix2 a k) : EReal) = rms (fun l => X (ix2 a l)) (fun l => G (ix2 0 l)) k := by
  pointwise [k0_pay1]
  rfl

theorem final : (dats m 0 c).arrAt 2 cfg0.N = whole m c := by
  refine (dats m 0 c).arrAt_eq_of_covers 2 (whole m c) (by decide +kernel) fun t hf y => ?_
  have hN : t.val < 32 := lt_of_lt_of_eq t.isLt (show cfg0.N = 32 from N_0)
  blk_simp
  rw [after0_2]
  frame_out
  obtain ⟨a, k, rfl⟩ : ∃ (a : Fin 512) (k : Fin 2048), y = ix2 a k := ⟨y 0, y 1, eq_ix2 y⟩
  rw [block_apply]
  refine (congrArg₂ (fun X G => rms X G k) (funext fun l => staged0 m c t a l ⟨512 * t.val + a.val, by omega⟩ rfl)
    (funext fun l => staged1 m c t l)).trans ?_
  show wholeRC m c ⟨512 * t.val + a.val, by omega⟩ k = wholeRC m c _ _
  refine congrArg₂ (wholeRC m c) (Fin.ext ?_) (Fin.ext ?_) <;> blk_simp [idx t] <;> simp only <;> omega

end Cert.NormIdeal.Layer

namespace Cert.NormReferenceIdeal.Layer

open Idealize.ShloMosaic Idealize.ShloMosaic.TcCoe Idealize.ShloMosaic.Tactic Idealize.SL.Sem
open Cert.NormReferenceIdeal Cert.NormReferenceIdeal.Gen Cert.Layer

variable (X : FVec Ideal S4x4096x2048 .f32) (G : FVec Ideal S2048 .f32)

/-- Each row's factor. -/
def factor : FVec Ideal S4x4096x1 .f32 :=
  Host.rsqrt (addf (Host.divf (broadcastInDim S4x4096x1 ![0, 1] bcast_S4x4096_S4x4096x1_0_1
      (Host.reduceAdd (mulf X X) (constant S_ .f32 0x00000000#32) reducesTo_S4x4096x2048_S4x4096_d2 h_S_))
    (broadcastInDim S4x4096x1 ![] bcast_S_S4x4096x1 (constant S_ .f32 0x45000000#32)))
    (broadcastInDim S4x4096x1 ![] bcast_S_S4x4096x1 (constant S_ .f32 0x358637BD#32)))

/-- The normalised rows. -/
def result : FVec Ideal S16384x2048 .f32 :=
  shapeCast _ (mulf (mulf X (broadcastInDim S4x4096x2048 ![0, 1, 2] bcast_S4x4096x1_S4x4096x2048_0_1_2 (factor X)))
    (broadcastInDim S4x4096x2048 ![0, 1, 2] bcast_S1x1x2048_S4x4096x2048_0_1_2 (broadcastInDim S1x1x2048 ![2] bcast_S2048_S1x1x2048_2 G)))
    shapeCasts_S4x4096x2048_S16384x2048

theorem factor_apply (b : Fin 4) (i : Fin 4096) : (factor X (ix3 b i 0) : EReal) = rootMean (fun l => X (ix3 b i l)) := by
  pointwise [factor]
  rfl

theorem result_apply (r : Fin 16384) (k : Fin 2048) : (result X G (ix2 r k) : EReal)
    = rms (fun l => X (ix3 ⟨r.val / 4096, by omega⟩ ⟨r.val % 4096, by omega⟩ l)) (fun l => G (ix1 l)) k := by
  pointwise [result]
  exact congrArg (fun s : EReal => X _ * s * G (ix1 k)) (factor_apply X _ _)

end Cert.NormReferenceIdeal.Layer

namespace Cert.NormLayer

open Idealize.ShloMosaic Idealize.ShloMosaic.TcCoe Idealize.SL.Sem

/-- Both programs give the same rows. -/
theorem whole_eq (m : (ℓ : Loc NormIdeal.nD NormIdeal.τ NormIdeal.sig) → Buf (Elt Ideal) ℓ)
    (m' : (ℓ : Loc NormReferenceIdeal.nD NormReferenceIdeal.τ NormReferenceIdeal.sig) → Buf (Elt Ideal) ℓ) (c : Dev NormIdeal.nD)
    (e0 : m' ((c : Thread NormReferenceIdeal.nD NormReferenceIdeal.τ).loc NormReferenceIdeal.main_arg0) = m ((c : Thread NormIdeal.nD NormIdeal.τ).loc NormIdeal.main_arg0))
    (e1 : m' ((c : Thread NormReferenceIdeal.nD NormReferenceIdeal.τ).loc NormReferenceIdeal.main_arg1) = m ((c : Thread NormIdeal.nD NormIdeal.τ).loc NormIdeal.main_arg1)) :
    NormReferenceIdeal.Layer.result (m' ((c : Thread NormReferenceIdeal.nD NormReferenceIdeal.τ).loc NormReferenceIdeal.main_arg0))
      (m' ((c : Thread NormReferenceIdeal.nD NormReferenceIdeal.τ).loc NormReferenceIdeal.main_arg1)) = NormIdeal.Layer.whole m c := by
  rw [e0, e1]
  funext y
  obtain ⟨r, k, rfl⟩ : ∃ (r : Fin 16384) (k : Fin 2048), y = ix2 r k := ⟨y 0, y 1, eq_ix2 y⟩
  exact NormReferenceIdeal.Layer.result_apply _ _ r k

end Cert.NormLayer
end
-- ==== Proof.Layer.UpRun.lean ====
/- What the gate-and-up projection's body computes, over its input blocks: at the first point of a row block the rows are
   normalised, sixteen at a time, into a scratch buffer, which the other points of the row block read. -/
module

public import proofs.«01_k».proof.Proof.Gen.UpIdeal.Frame
public import proofs.«01_k».proof.Proof.Layer.Rms
public import Idealize.ShloMosaic.Lib.Pipeline.ValueKit
public import Idealize.ShloMosaic.Lib.WholeRead

@[expose] public section

set_option maxRecDepth 16384

noncomputable section

namespace Cert.UpIdeal.Layer

open Idealize.ShloMosaic Idealize.SL.Sem
open Cert.UpIdeal Cert.UpIdeal.Gen Cert.Layer

/-- The rows of a block, normalised, scaled and moved. -/
def normed (x0 : S1024x2048.Idx → EReal) (x1 : S1x2048.Idx → EReal) (x2 x3 : S1x1x2048.Idx → EReal) (a : Fin 1024) (k : Fin 2048) : EReal :=
  moved (fun l => x0 (ix2 a l)) (fun l => x1 (ix2 0 l)) (fun l => x2 (ix3 0 0 l)) (fun l => x3 (ix3 0 0 l)) k

/-- As a buffer. -/
def rows (x0 : S1024x2048.Idx → EReal) (x1 : S1x2048.Idx → EReal) (x2 x3 : S1x1x2048.Idx → EReal) (y : S1024x2048.Idx) : EReal :=
  normed x0 x1 x2 x3 (y 0) (y 1)

theorem chunk_apply (X : FVec Ideal S16x2048 .f32) (G : FVec Ideal S1x2048 .f32) (S T : FVec Ideal S1x1x2048 .f32) (a : Fin 16) (k : Fin 2048) :
    (k0_pay1 (F := Ideal) X G S T (ix2 a k) : EReal)
      = moved (fun l => X (ix2 a l)) (fun l => G (ix2 0 l)) (fun l => S (ix3 0 0 l)) (fun l => T (ix3 0 0 l)) k := by
  pointwise [k0_pay1]
  rfl

theorem off_at (k : Fin k0_t1_loop.trips) : k0_off1 k 0 = 16 * k.val ∧ k0_off1 k 1 = 0 := by
  rw [k0_off1_eq]
  exact ⟨rfl, rfl⟩

/-- The rectangle of sixteen rows that trip `k` reads and writes. -/
abbrev chunkR (i : grid0.Coords) (h : cond0_0 i) (k : Fin k0_t1_loop.trips) : Rect S1024x2048 :=
  Rect.unit (s := S1024x2048) (k0_off1 k) S16x2048.size (k0_off1_inb i k h)
theorem chunk_val (i : grid0.Coords) (h : cond0_0 i) (k : Fin k0_t1_loop.trips) (a : Fin 16) (l : Fin 2048) :
    ((chunkR i h k).emb (ix2 a l) 0).val = 16 * k.val + a.val ∧ ((chunkR i h k).emb (ix2 a l) 1).val = l.val :=
  ⟨(Rect.idx_unit_val _ _ (k0_off1_inb i k h) _ 0).trans (congrArg (· + a.val) (off_at k).1),
    (Rect.idx_unit_val _ _ (k0_off1_inb i k h) _ 1).trans ((congrArg (· + l.val) (off_at k).2).trans (Nat.zero_add _))⟩

/-- The whole of each of the other operands. -/
abbrev gR : Rect S1x2048 := Rect.unit (s := S1x2048) ![0, 0] S1x2048.size inb_S1x2048_S1x2048_0_0
abbrev mR : Rect S1x1x2048 := Rect.unit (s := S1x1x2048) ![0, 0, 0] S1x1x2048.size inb_S1x1x2048_S1x1x2048_0_0_0
abbrev wR : Rect S1x2048x512 := Rect.unit (s := S1x2048x512) ![0, 0, 0] S1x2048x512.size inb_S1x2048x512_S1x2048x512_0_0_0
abbrev hR : Rect S1024x2048 := Rect.unit (s := S1024x2048) ![0, 0] S1024x2048.size inb_S1024x2048_S1024x2048_0_0
abbrev oR : Rect S1024x512 := Rect.unit (s := S1024x512) ![0, 0] S1024x512.size inb_S1024x512_S1024x512_0_0

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1024x512 .bf16) (harg8 : arg8.IsWhole) (arg9 : Memref sig .tc .vmem S1024x2048 .bf16) (harg9 : arg9.IsWhole) (hc0 : cond0_0 i)
  (x0 : Vec Ideal S1024x2048 .f32) (x1 : Vec Ideal S1x2048 .f32) (x2 x3 : Vec Ideal S1x1x2048 .f32) (x4 x5 : Vec Ideal S1x2048x512 .bf16)

/-- The pieces of the first `n` trips. -/
abbrev pieces (n : Nat) : List (View.Piece (Elt Ideal) S1024x2048 .bf16) :=
  pb_k0_t1 (F := Ideal) Variants.none c none i arg2 harg2 arg3 harg3 arg4 harg4 arg5 harg5 arg6 harg6 arg7 harg7 arg8 harg8 arg9 harg9 hc0 (harg2.unread x0) (harg3.unread x1) (harg4.unread x2) (harg5.unread x3) n

theorem trip_eq (k : Fin k0_t1_loop.trips) :
    tripL_k0_t1 (F := Ideal) Variants.none c none i arg2 harg2 arg3 harg3 arg4 harg4 arg5 harg5 arg6 harg6 arg7 harg7 arg8 harg8 arg9 harg9 hc0 (harg2.unread x0) (harg3.unread x1) (harg4.unread x2) (harg5.unread x3) k
      = [⟨chunkR i hc0 k, k0_pay1 (View.readAt (Elt Ideal) arg2.view (chunkR i hc0 k).toLoadRect (harg2.unread x0))
          (View.readAt (Elt Ideal) arg3.view gR.toLoadRect (harg3.unread x1)) (View.readAt (Elt Ideal) arg4.view mR.toLoadRect (harg4.unread x2))
          (View.readAt (Elt Ideal) arg5.view mR.toLoadRect (harg5.unread x3))⟩] := by
  sl_kernel_rfl

theorem scratch_pieces : (kernelRun0_A (F := Ideal) c i arg2 harg2 arg3 harg3 arg4 harg4 arg5 harg5 arg6 harg6 arg7 harg7 arg8 harg8 arg9 harg9 hc0 x0 x1 x2 x3 x4 x5).2.1 = pieces c i arg2 harg2 arg3 harg3 arg4 harg4 arg5 harg5 arg6 harg6 arg7 harg7 arg8 harg8 arg9 harg9 hc0 x0 x1 x2 x3 k0_t1_loop.trips := by
  sl_kernel_rfl

theorem stored_A : (kernelRun0_A (F := Ideal) c i arg2 harg2 arg3 harg3 arg4 harg4 arg5 harg5 arg6 harg6 arg7 harg7 arg8 harg8 arg9 harg9 hc0 x0 x1 x2 x3 x4 x5).1
    = [⟨oR, k0_pay2 (arg9.view.readCov (kernelRun0_A (F := Ideal) c i arg2 harg2 arg3 harg3 arg4 harg4 arg5 harg5 arg6 harg6 arg7 harg7 arg8 harg8 arg9 harg9 hc0 x0 x1 x2 x3 x4 x5).2.1 hR.toLoadRect)
        (View.readAt (Elt Ideal) arg6.view wR.toLoadRect (harg6.unread x4)) (View.readAt (Elt Ideal) arg7.view wR.toLoadRect (harg7.unread x5))⟩] := by
  sl_kernel_rfl

theorem chunk_at (k : Fin k0_t1_loop.trips) (a : Fin 16) (l : Fin 2048) (y : S1024x2048.Idx) (h0 : (y 0).val = 16 * k.val + a.val) (h1 : (y 1).val = l.val) :
    (k0_pay1 (F := Ideal) (View.readAt (Elt Ideal) arg2.view (chunkR i hc0 k).toLoadRect (harg2.unread x0))
      (View.readAt (Elt Ideal) arg3.view gR.toLoadRect (harg3.unread x1)) (View.readAt (Elt Ideal) arg4.view mR.toLoadRect (harg4.unread x2))
      (View.readAt (Elt Ideal) arg5.view mR.toLoadRect (harg5.unread x3)) (ix2 a l) : EReal) = rows x0 x1 x2 x3 y := by
  have e : y 1 = l := Fin.ext h1
  rw [chunk_apply]
  unfold rows normed
  rw [e]
  have e0 : ∀ l, View.readAt (Elt Ideal) arg2.view (chunkR i hc0 k).toLoadRect (harg2.unread x0) (ix2 a l) = x0 (ix2 (y 0) l) := fun l =>
    (harg2.readAt_unread x0 _ _).trans (congrArg x0 (funext fun b => Fin.ext (by
      fin_cases b
      · exact (chunk_val i hc0 k a l).1.trans h0.symm
      · exact (chunk_val i hc0 k a l).2)))
  have e1 : ∀ l, View.readAt (Elt Ideal) arg3.view gR.toLoadRect (harg3.unread x1) (ix2 0 l) = x1 (ix2 0 l) := fun l =>
    (harg3.readAt_unread x1 _ _).trans (congrArg x1 (idx_whole _ (by decide) _))
  have e2 : ∀ l, View.readAt (Elt Ideal) arg4.view mR.toLoadRect (harg4.unread x2) (ix3 0 0 l) = x2 (ix3 0 0 l) := fun l =>
    (harg4.readAt_unread x2 _ _).trans (congrArg x2 (idx_whole _ (by decide) _))
  have e3 : ∀ l, View.readAt (Elt Ideal) arg5.view mR.toLoadRect (harg5.unread x3) (ix3 0 0 l) = x3 (ix3 0 0 l) := fun l =>
    (harg5.readAt_unread x3 _ _).trans (congrArg x3 (idx_whole _ (by decide) _))
  rw [funext e0, funext e1, funext e2, funext e3]

theorem pieces_agree : ∀ (n : Nat) (h : n ≤ k0_t1_loop.trips), ∀ p ∈ pieces c i arg2 harg2 arg3 harg3 arg4 harg4 arg5 harg5 arg6 harg6 arg7 harg7 arg8 harg8 arg9 harg9 hc0 x0 x1 x2 x3 n, ∀ j, p.2 j = rows x0 x1 x2 x3 (p.1.emb j)
  | 0, _ => fun p hp => absurd hp List.not_mem_nil
  | n + 1, h => by
    intro p hp
    unfold pieces at hp
    rw [pb_k0_t1_succ (k := ⟨n, h⟩), trip_eq] at hp
    rcases List.mem_cons.1 hp with rfl | hp
    · intro j
      obtain ⟨a, l, rfl⟩ : ∃ (a : Fin 16) (l : Fin 2048), j = ix2 a l := ⟨j 0, j 1, eq_ix2 j⟩
      refine chunk_at i arg2 harg2 arg3 harg3 arg4 harg4 arg5 harg5 hc0 x0 x1 x2 x3 ⟨n, h⟩ a l _ (chunk_val i hc0 ⟨n, h⟩ a l).1 (chunk_val i hc0 ⟨n, h⟩ a l).2
    · exact pieces_agree n (Nat.le_of_succ_le h) p hp

theorem scratch_canon (y : S1024x2048.Idx) :
    View.canon (kernelRun0_A (F := Ideal) c i arg2 harg2 arg3 harg3 arg4 harg4 arg5 harg5 arg6 harg6 arg7 harg7 arg8 harg8 arg9 harg9 hc0 x0 x1 x2 x3 x4 x5).2.1 y = rows x0 x1 x2 x3 y := by
  refine View.canon_apply_of_pieces (rows x0 x1 x2 x3) _ ?_ y (scover0_A_0 (F := Ideal) c i arg2 harg2 arg3 harg3 arg4 harg4 arg5 harg5 arg6 harg6 arg7 harg7 arg8 harg8 arg9 harg9 hc0 x0 x1 x2 x3 x4 x5 y)
  rw [scratch_pieces]
  exact pieces_agree c i arg2 harg2 arg3 harg3 arg4 harg4 arg5 harg5 arg6 harg6 arg7 harg7 arg8 harg8 arg9 harg9 hc0 x0 x1 x2 x3 _ (le_refl _)

/-- The first point of a row block leaves the normalised rows in the scratch buffer. -/
theorem scratch_A : sout0_A_0 (F := Ideal) c i arg2 harg2 arg3 harg3 arg4 harg4 arg5 harg5 arg6 harg6 arg7 harg7 arg8 harg8 arg9 harg9 hc0 x0 x1 x2 x3 x4 x5 = rows x0 x1 x2 x3 := by
  unfold sout0_A_0
  rw [View.read_writes_junk_eq_canon]
  exact funext fun y => scratch_canon c i arg2 harg2 arg3 harg3 arg4 harg4 arg5 harg5 arg6 harg6 arg7 harg7 arg8 harg8 arg9 harg9 hc0 x0 x1 x2 x3 x4 x5 y

theorem weights_read (v : Memref sig .tc .vmem S1x2048x512 .bf16) (hv : v.IsWhole) (w : Vec Ideal S1x2048x512 .bf16) :
    View.readAt (Elt Ideal) v.view wR.toLoadRect (hv.unread w) = w :=
  funext fun j => (hv.readAt_unread w _ j).trans (congrArg w (idx_whole _ (by decide) j))

/-- What it leaves in its block of the result. -/
theorem block_A : out0_A_6 (F := Ideal) c i arg2 harg2 arg3 harg3 arg4 harg4 arg5 harg5 arg6 harg6 arg7 harg7 arg8 harg8 arg9 harg9 hc0 x0 x1 x2 x3 x4 x5 = k0_pay2 (F := Ideal) (rows x0 x1 x2 x3) x4 x5 := by
  unfold out0_A_6
  rw [View.read_writes_junk_eq_canon, stored_A, View.canon_cons_unit_lit _ _ _ (by decide), weights_read, weights_read, View.readCov_eq_canon']
  refine congrArg (fun h => k0_pay2 (F := Ideal) h x4 x5) (funext fun j => ?_)
  exact (scratch_canon c i arg2 harg2 arg3 harg3 arg4 harg4 arg5 harg5 arg6 harg6 arg7 harg7 arg8 harg8 arg9 harg9 hc0 x0 x1 x2 x3 x4 x5 _).trans (congrArg (rows x0 x1 x2 x3) (idx_whole _ (by decide) j))

end

theorem stored_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1024x512 .bf16) (harg8 : arg8.IsWhole) (arg9 : Memref sig .tc .vmem S1024x2048 .bf16) (harg9 : arg9.IsWhole) (hc0 : ¬cond0_0 i)
  (x0 : Vec Ideal S1024x2048 .f32) (x1 : Vec Ideal S1x2048 .f32) (x2 x3 : Vec Ideal S1x1x2048 .f32) (x4 x5 : Vec Ideal S1x2048x512 .bf16) (xs0 : Vec Ideal S1024x2048 .bf16) : (kernelRun0_B (F := Ideal) c i arg2 harg2 arg3 harg3 arg4 harg4 arg5 harg5 arg6 harg6 arg7 harg7 arg8 harg8 arg9 harg9 hc0 x0 x1 x2 x3 x4 x5 xs0).1
    = [⟨oR, k0_pay2 (View.readAt (Elt Ideal) arg9.view hR.toLoadRect (harg9.unread xs0))
        (View.readAt (Elt Ideal) arg6.view wR.toLoadRect (harg6.unread x4)) (View.readAt (Elt Ideal) arg7.view wR.toLoadRect (harg7.unread x5))⟩] := by
  sl_kernel_rfl

/-- What another point leaves in its block of the result, over the scratch buffer. -/
theorem block_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S1024x512 .bf16) (harg8 : arg8.IsWhole) (arg9 : Memref sig .tc .vmem S1024x2048 .bf16) (harg9 : arg9.IsWhole) (hc0 : ¬cond0_0 i)
  (x0 : Vec Ideal S1024x2048 .f32) (x1 : Vec Ideal S1x2048 .f32) (x2 x3 : Vec Ideal S1x1x2048 .f32) (x4 x5 : Vec Ideal S1x2048x512 .bf16) (xs0 : Vec Ideal S1024x2048 .bf16) : out0_B_6 (F := Ideal) c i arg2 harg2 arg3 harg3 arg4 harg4 arg5 harg5 arg6 harg6 arg7 harg7 arg8 harg8 arg9 harg9 hc0 x0 x1 x2 x3 x4 x5 xs0 = k0_pay2 (F := Ideal) xs0 x4 x5 := by
  unfold out0_B_6
  rw [View.read_writes_junk_eq_canon, stored_B, View.canon_cons_unit_lit _ _ _ (by decide), weights_read, weights_read]
  exact congrArg (fun h => k0_pay2 (F := Ideal) h x4 x5) (funext fun j => (harg9.readAt_unread xs0 _ j).trans (congrArg xs0 (idx_whole _ (by decide) j)))

end Cert.UpIdeal.Layer
end
-- ==== Proof.Layer.Up.lean ====
/- The feed-forward layer's gate and up projections: both programs give, for every row of the residual stream normalised, scaled and
   moved, the product with the up weights times the product with the gate weights through the sigmoid linear unit. -/
module

public import proofs.«01_k».proof.Proof.Gen.UpIdeal.Value
public import proofs.«01_k».proof.Proof.Gen.UpReferenceIdeal.Run
public import proofs.«01_k».proof.Proof.Layer.UpRun

@[expose] public section

set_option maxRecDepth 16384

noncomputable section

namespace Cert.UpLayer

open Idealize.ShloMosaic

/-- A number times its sigmoid. -/
def silu (z : EReal) : EReal := z * Ideal.div 1 (1 + Ideal.exp (-z))

/-- One entry: a row against a column of the gate weights through the unit, times the row against a column of the up weights. -/
def gateUp (h g u : Fin 2048 → EReal) : EReal := silu (∑ l, h l * g l) * ∑ l, h l * u l

end Cert.UpLayer

namespace Cert.UpIdeal.Layer

open Idealize.ShloMosaic Idealize.ShloMosaic.TcCoe Idealize.ShloMosaic.Tactic Idealize.SL.Sem
open Cert.UpIdeal Cert.UpIdeal.Gen Cert.Layer Cert.UpLayer

variable (m : (ℓ : Loc nD τ sig) → Buf (Elt Ideal) ℓ) (c : Dev nD)

/-- The residual stream. -/
def x : S4x4096x2048.Idx → EReal := m ((c : Thread nD τ).loc main_arg0)
/-- The normalisation's weights. -/
def g : S2048.Idx → EReal := m ((c : Thread nD τ).loc main_arg1)
/-- The batches' modulation. -/
def mods : S4x12288.Idx → EReal := m ((c : Thread nD τ).loc main_arg2)
/-- The layers' gate weights. -/
def wg : S2x2048x5632.Idx → EReal := m ((c : Thread nD τ).loc main_arg3)
/-- The layers' up weights. -/
def wu : S2x2048x5632.Idx → EReal := m ((c : Thread nD τ).loc main_arg4)

/-- The stream's rows normalised, scaled and moved by their batch's modulation; batches stacked. -/
def row (r : Fin 16384) (k : Fin 2048) : EReal :=
  moved (fun l => x m c (ix3 ⟨r.val / 4096, by omega⟩ ⟨r.val % 4096, by omega⟩ l)) (fun l => g m c (ix1 l))
    (fun l => mods m c (ix2 ⟨r.val / 4096, by omega⟩ ⟨8192 + l.val, by omega⟩)) (fun l => mods m c (ix2 ⟨r.val / 4096, by omega⟩ ⟨6144 + l.val, by omega⟩)) k

/-- The result, batches stacked. -/
def wholeRC (r : Fin 16384) (k : Fin 5632) : EReal :=
  gateUp (row m c r) (fun l => wg m c (ix3 0 l k)) (fun l => wu m c (ix3 0 l k))

def whole (y : S16384x5632.Idx) : EReal := wholeRC m c (y 0) (y 1)

theorem x_apply (r : Fin 16384) (l : Fin 2048) :
    (V m c main_v0 : S16384x2048.Idx → EReal) (ix2 r l) = x m c (ix3 ⟨r.val / 4096, by omega⟩ ⟨r.val % 4096, by omega⟩ l) := by
  entry_read
  pointwise
  show x m c _ = _
  blk_ext

theorem mods_apply (b : Fin 8) (h : b.val < 4) (k : Fin 12288) :
    (V m c main_v3 : S8x1x12288.Idx → EReal) (ix3 b 0 k) = mods m c (ix2 ⟨b.val, h⟩ k) := by
  entry_read
  pointwise
  rw [dif_pos (by omega)]
  show mods m c _ = _
  blk_ext

theorem wg_apply (b : Fin 2) (l : Fin 2048) (k : Fin 5632) : (V m c main_v4 : S2x2048x5632.Idx → EReal) (ix3 b l k) = wg m c (ix3 b l k) := by
  entry_read
  pointwise
  rfl

theorem wu_apply (b : Fin 2) (l : Fin 2048) (k : Fin 5632) : (V m c main_v5 : S2x2048x5632.Idx → EReal) (ix3 b l k) = wu m c (ix3 b l k) := by
  entry_read
  pointwise
  rfl

theorem g_apply (k : Fin 2048) : (V m c main_v6 : S1x2048.Idx → EReal) (ix2 0 k) = g m c (ix1 k) := by
  entry_read
  pointwise
  show g m c _ = _
  blk_ext

/-- The blocks a point stages. -/
theorem idx (t : Fin cfg0.N) :
    (win0_0.index t 0 = t.val / 11 ∧ win0_0.index t 1 = 0) ∧
    (win0_1.index t 0 = 0 ∧ win0_1.index t 1 = 0) ∧
    (win0_2.index t 0 = t.val / 44 ∧ win0_2.index t 1 = 0 ∧ win0_2.index t 2 = 4) ∧
    (win0_3.index t 0 = t.val / 44 ∧ win0_3.index t 1 = 0 ∧ win0_3.index t 2 = 3) ∧
    (win0_4.index t 0 = 0 ∧ win0_4.index t 1 = 0 ∧ win0_4.index t 2 = t.val % 11) ∧
    (win0_5.index t 0 = 0 ∧ win0_5.index t 1 = 0 ∧ win0_5.index t 2 = t.val % 11) ∧
    (win0_6.index t 0 = t.val / 11 ∧ win0_6.index t 1 = t.val % 11) := by
  revert t
  decide +kernel

variable (t : Fin cfg0.N)

theorem staged0 (a : Fin 1024) (r : Fin 16384) (hr : r.val = 1024 * (t.val / 11) + a.val) (l : Fin 2048) :
    (iblk m c 0 t : S1024x2048.Idx → EReal) (ix2 a l) = x m c (ix3 ⟨r.val / 4096, by omega⟩ ⟨r.val % 4096, by omega⟩ l) := by
  refine Eq.trans ?_ (x_apply m c r l)
  blk_ext [iblk, idx t]

theorem staged1 (l : Fin 2048) : (iblk m c 1 t : S1x2048.Idx → EReal) (ix2 0 l) = g m c (ix1 l) := by
  refine Eq.trans ?_ (g_apply m c l)
  blk_ext [iblk, idx t]

theorem staged2 (a : Fin 1024) (r : Fin 16384) (hr : r.val = 1024 * (t.val / 11) + a.val) (l : Fin 2048) :
    (iblk m c 2 t : S1x1x2048.Idx → EReal) (ix3 0 0 l) = mods m c (ix2 ⟨r.val / 4096, by omega⟩ ⟨8192 + l.val, by omega⟩) := by
  refine Eq.trans ?_ (mods_apply m c ⟨r.val / 4096, by omega⟩ (by simp only; omega) ⟨8192 + l.val, by omega⟩)
  blk_ext [iblk, idx t]

theorem staged3 (a : Fin 1024) (r : Fin 16384) (hr : r.val = 1024 * (t.val / 11) + a.val) (l : Fin 2048) :
    (iblk m c 3 t : S1x1x2048.Idx → EReal) (ix3 0 0 l) = mods m c (ix2 ⟨r.val / 4096, by omega⟩ ⟨6144 + l.val, by omega⟩) := by
  refine Eq.trans ?_ (mods_apply m c ⟨r.val / 4096, by omega⟩ (by simp only; omega) ⟨6144 + l.val, by omega⟩)
  blk_ext [iblk, idx t]

theorem staged4 (j : Fin 512) (k : Fin 5632) (hk : k.val = 512 * (t.val % 11) + j.val) (l : Fin 2048) :
    (iblk m c 4 t : S1x2048x512.Idx → EReal) (ix3 0 l j) = wg m c (ix3 0 l k) := by
  refine Eq.trans ?_ (wg_apply m c 0 l k)
  blk_ext [iblk, idx t]

theorem staged5 (j : Fin 512) (k : Fin 5632) (hk : k.val = 512 * (t.val % 11) + j.val) (l : Fin 2048) :
    (iblk m c 5 t : S1x2048x512.Idx → EReal) (ix3 0 l j) = wu m c (ix3 0 l k) := by
  refine Eq.trans ?_ (wu_apply m c 0 l k)
  blk_ext [iblk, idx t]

omit m c t in
theorem rows_at (x0 : S1024x2048.Idx → EReal) (x1 : S1x2048.Idx → EReal) (x2 x3 : S1x1x2048.Idx → EReal) (a : Fin 1024) (l : Fin 2048) :
    rows x0 x1 x2 x3 (ix2 a l) = moved (fun l => x0 (ix2 a l)) (fun l => x1 (ix2 0 l)) (fun l => x2 (ix3 0 0 l)) (fun l => x3 (ix3 0 0 l)) l := rfl

/-- A point's rows are the stream's, normalised, scaled and moved. -/
theorem rows_apply (a : Fin 1024) (r : Fin 16384) (hr : r.val = 1024 * (t.val / 11) + a.val) (l : Fin 2048) :
    rows (iblk m c 0 t) (iblk m c 1 t) (iblk m c 2 t) (iblk m c 3 t) (ix2 a l) = row m c r l := by
  rw [rows_at]
  unfold row
  rw [funext (staged0 m c t a r hr), funext (staged1 m c t), funext (staged2 m c t a r hr), funext (staged3 m c t a r hr)]

omit t in
/-- After every point the scratch buffer holds the rows of its row block. -/
theorem kept : ∀ (n : Nat) (hn : n < cfg0.N) (a : Fin 1024) (r : Fin 16384) (hr : r.val = 1024 * (n / 11) + a.val) (l : Fin 2048),
    ((outsAt0 m c n hn).2 (ix2 a l) : EReal) = row m c r l := by
  intro n
  induction n with
  | zero =>
    intro hn a r hr l
    rw [show outsAt0 m c 0 hn = _ from outsAt0_A m c ⟨0, hn⟩ rfl]
    dsimp only
    rw [scratch_A]
    exact rows_apply m c ⟨0, hn⟩ a r hr l
  | succ n ih =>
    intro hn a r hr l
    by_cases h : (n + 1) % 11 = 0
    · rw [show outsAt0 m c (n + 1) hn = _ from outsAt0_A m c ⟨n + 1, hn⟩ h]
      dsimp only
      rw [scratch_A]
      exact rows_apply m c ⟨n + 1, hn⟩ a r hr l
    · rw [show outsAt0 m c (n + 1) hn = _ from outsAt0_B m c ⟨n + 1, hn⟩ h]
      exact ih (Nat.lt_of_succ_lt hn) a r (by omega) l

omit m c t in
theorem block_apply (H : FVec Ideal S1024x2048 .bf16) (G U : FVec Ideal S1x2048x512 .bf16) (a : Fin 1024) (j : Fin 512) :
    (k0_pay2 (F := Ideal) H G U (ix2 a j) : EReal) = gateUp (fun l => H (ix2 a l)) (fun l => G (ix3 0 l j)) (fun l => U (ix3 0 l j)) := by
  pointwise [k0_pay2]
  rfl

/-- What a point leaves in its block of the result. -/
theorem point (a : Fin 1024) (j : Fin 512) (r : Fin 16384) (hr : r.val = 1024 * (t.val / 11) + a.val) (k : Fin 5632) (hk : k.val = 512 * (t.val % 11) + j.val) :
    ((outsAt0 m c t.val t.isLt).1 (ix2 a j) : EReal) = wholeRC m c r k := by
  by_cases h : t.val % 11 = 0
  · rw [outsAt0_A m c t h]
    dsimp only
    rw [block_A, block_apply, funext (rows_apply m c t a r hr), funext (staged4 m c t j k hk), funext (staged5 m c t j k hk)]
    rfl
  · rw [outsAt0_B m c t h]
    dsimp only
    rw [block_B, block_apply, funext (kept m c (t.val - 1) (Nat.lt_of_le_of_lt (Nat.sub_le _ _) t.isLt) a r (by omega)),
      funext (staged4 m c t j k hk), funext (staged5 m c t j k hk)]
    rfl

omit t in
theorem final : (dats m 0 c).arrAt 6 cfg0.N = whole m c := by
  refine (dats m 0 c).arrAt_eq_of_covers 6 (whole m c) (by decide +kernel) fun t hf y => ?_
  have hN : t.val < 176 := lt_of_lt_of_eq t.isLt (show cfg0.N = 176 from N_0)
  blk_simp
  rw [after0_6]
  obtain ⟨a, j, rfl⟩ : ∃ (a : Fin 1024) (j : Fin 512), y = ix2 a j := ⟨y 0, y 1, eq_ix2 y⟩
  have hr : 1024 * (t.val / 11) + a.val < 16384 := by omega
  have hk : 512 * (t.val % 11) + j.val < 5632 := by omega
  refine (point m c t a j ⟨_, hr⟩ rfl ⟨_, hk⟩ rfl).trans ?_
  show wholeRC m c ⟨_, hr⟩ ⟨_, hk⟩ = wholeRC m c _ _
  refine congrArg₂ (wholeRC m c) (Fin.ext ?_) (Fin.ext ?_) <;> blk_simp [idx t] <;> simp only <;> omega

end Cert.UpIdeal.Layer

namespace Cert.UpReferenceIdeal.Layer

open Idealize.ShloMosaic Idealize.ShloMosaic.TcCoe Idealize.ShloMosaic.Tactic Idealize.SL.Sem
open Cert.UpReferenceIdeal Cert.UpReferenceIdeal.Gen Cert.Layer Cert.UpLayer

variable (X : FVec Ideal S4x4096x2048 .f32) (G : FVec Ideal S2048 .f32) (M : FVec Ideal S4x12288 .f32) (W U : FVec Ideal S2x2048x5632 .f32)

/-- Each row's factor. -/
def factor : FVec Ideal S4x4096x1 .f32 :=
  Host.rsqrt (addf (Host.divf (broadcastInDim S4x4096x1 ![0, 1] bcast_S4x4096_S4x4096x1_0_1
      (Host.reduceAdd (mulf X X) (constant S_ .f32 0x00000000#32) reducesTo_S4x4096x2048_S4x4096_d2 h_S_))
    (broadcastInDim S4x4096x1 ![] bcast_S_S4x4096x1 (constant S_ .f32 0x45000000#32)))
    (broadcastInDim S4x4096x1 ![] bcast_S_S4x4096x1 (constant S_ .f32 0x358637BD#32)))

/-- The rows normalised, scaled and moved. -/
def rows : FVec Ideal S4x4096x2048 .f32 :=
  addf (mulf (mulf (mulf X (broadcastInDim S4x4096x2048 ![0, 1, 2] bcast_S4x4096x1_S4x4096x2048_0_1_2 (factor X)))
      (broadcastInDim S4x4096x2048 ![0, 1, 2] bcast_S1x1x2048_S4x4096x2048_0_1_2 (broadcastInDim S1x1x2048 ![2] bcast_S2048_S1x1x2048_2 G)))
    (broadcastInDim S4x4096x2048 ![0, 1, 2] bcast_S4x1x2048_S4x4096x2048_0_1_2 (addf (broadcastInDim S4x1x2048 ![] bcast_S_S4x1x2048 (constant S_ .f32 0x3F800000#32))
      (broadcastInDim S4x1x2048 ![0, 2] bcast_S4x2048_S4x1x2048_0_2 (extractStridedSlice S4x2048 ![0, 8192] M slices_S4x12288_S4x2048_0_8192)))))
    (broadcastInDim S4x4096x2048 ![0, 1, 2] bcast_S4x1x2048_S4x4096x2048_0_1_2
      (broadcastInDim S4x1x2048 ![0, 2] bcast_S4x2048_S4x1x2048_0_2 (extractStridedSlice S4x2048 ![0, 6144] M slices_S4x12288_S4x2048_0_6144)))

/-- Rows against the first layer's weights. -/
def product (H : FVec Ideal S4x4096x2048 .f32) (W : FVec Ideal S2x2048x5632 .f32) : FVec Ideal S4x4096x5632 .f32 :=
  Host.dotGeneral dot_S4x4096x2048_S2048x5632_S4x4096x5632_2_0_01_1_n_n none H
    (shapeCast _ (extractStridedSlice S1x2048x5632 ![0, 0, 0] W slices_S2x2048x5632_S1x2048x5632_0_0_0) shapeCasts_S1x2048x5632_S2048x5632)

/-- The unit, entry by entry. -/
def unit (Z : FVec Ideal S4x4096x5632 .f32) : FVec Ideal S4x4096x5632 .f32 :=
  mulf Z (Host.divf (broadcastInDim S4x4096x5632 ![] bcast_S_S4x4096x5632 (constant S_ .f32 0x3F800000#32))
    (addf (broadcastInDim S4x4096x5632 ![] bcast_S_S4x4096x5632 (constant S_ .f32 0x3F800000#32)) (Host.exp (Host.negf Z))))

/-- The gated products. -/
def result : FVec Ideal S16384x5632 .bf16 :=
  truncf .bf16 (shapeCast _ (mulf (unit (product (rows X G M) W)) (product (rows X G M) U)) shapeCasts_S4x4096x5632_S16384x5632) bitsLt_bf16_f32

theorem factor_apply (b : Fin 4) (i : Fin 4096) : (factor X (ix3 b i 0) : EReal) = rootMean (fun l => X (ix3 b i l)) := by
  pointwise [factor]
  rfl

theorem rows_apply (b : Fin 4) (i : Fin 4096) (k : Fin 2048) : (rows X G M (ix3 b i k) : EReal)
    = moved (fun l => X (ix3 b i l)) (fun l => G (ix1 l)) (fun l => M (ix2 b ⟨8192 + l.val, by omega⟩)) (fun l => M (ix2 b ⟨6144 + l.val, by omega⟩)) k := by
  pointwise [rows]
  exact congrArg (fun s : EReal => X _ * s * G (ix1 k) * (1 + M _) + M _) (factor_apply X b i)

theorem product_apply (H : FVec Ideal S4x4096x2048 .f32) (W : FVec Ideal S2x2048x5632 .f32) (b : Fin 4) (i : Fin 4096) (k : Fin 5632) :
    (product H W (ix3 b i k) : EReal) = ∑ l : Fin 2048, (H (ix3 b i l) : EReal) * W (ix3 0 l k) := by
  pointwise [product]

theorem unit_apply (Z : FVec Ideal S4x4096x5632 .f32) (b : Fin 4) (i : Fin 4096) (k : Fin 5632) : (unit Z (ix3 b i k) : EReal) = silu (Z (ix3 b i k)) := by
  pointwise [unit]
  rfl

theorem result_apply (r : Fin 16384) (k : Fin 5632) : (result X G M W U (ix2 r k) : EReal)
    = gateUp (fun k => moved (fun l => X (ix3 ⟨r.val / 4096, by omega⟩ ⟨r.val % 4096, by omega⟩ l)) (fun l => G (ix1 l))
        (fun l => M (ix2 ⟨r.val / 4096, by omega⟩ ⟨8192 + l.val, by omega⟩)) (fun l => M (ix2 ⟨r.val / 4096, by omega⟩ ⟨6144 + l.val, by omega⟩)) k)
      (fun l => W (ix3 0 l k)) (fun l => U (ix3 0 l k)) := by
  pointwise [result]
  rw [unit_apply, product_apply, product_apply]
  simp only [rows_apply]
  rfl

end Cert.UpReferenceIdeal.Layer

namespace Cert.UpLayer

open Idealize.ShloMosaic Idealize.ShloMosaic.TcCoe Idealize.SL.Sem

/-- Both programs give the same rows. -/
theorem whole_eq (m : (ℓ : Loc UpIdeal.nD UpIdeal.τ UpIdeal.sig) → Buf (Elt Ideal) ℓ)
    (m' : (ℓ : Loc UpReferenceIdeal.nD UpReferenceIdeal.τ UpReferenceIdeal.sig) → Buf (Elt Ideal) ℓ) (c : Dev UpIdeal.nD)
    (e0 : m' ((c : Thread UpReferenceIdeal.nD UpReferenceIdeal.τ).loc UpReferenceIdeal.main_arg0) = m ((c : Thread UpIdeal.nD UpIdeal.τ).loc UpIdeal.main_arg0))
    (e1 : m' ((c : Thread UpReferenceIdeal.nD UpReferenceIdeal.τ).loc UpReferenceIdeal.main_arg1) = m ((c : Thread UpIdeal.nD UpIdeal.τ).loc UpIdeal.main_arg1))
    (e2 : m' ((c : Thread UpReferenceIdeal.nD UpReferenceIdeal.τ).loc UpReferenceIdeal.main_arg2) = m ((c : Thread UpIdeal.nD UpIdeal.τ).loc UpIdeal.main_arg2))
    (e3 : m' ((c : Thread UpReferenceIdeal.nD UpReferenceIdeal.τ).loc UpReferenceIdeal.main_arg3) = m ((c : Thread UpIdeal.nD UpIdeal.τ).loc UpIdeal.main_arg3))
    (e4 : m' ((c : Thread UpReferenceIdeal.nD UpReferenceIdeal.τ).loc UpReferenceIdeal.main_arg4) = m ((c : Thread UpIdeal.nD UpIdeal.τ).loc UpIdeal.main_arg4)) :
    UpReferenceIdeal.Value.res_main_v36 (F := Ideal) m' c = UpIdeal.Layer.whole m c := by
  show UpReferenceIdeal.Layer.result (m' ((c : Thread UpReferenceIdeal.nD UpReferenceIdeal.τ).loc UpReferenceIdeal.main_arg0))
      (m' ((c : Thread UpReferenceIdeal.nD UpReferenceIdeal.τ).loc UpReferenceIdeal.main_arg1))
      (m' ((c : Thread UpReferenceIdeal.nD UpReferenceIdeal.τ).loc UpReferenceIdeal.main_arg2))
      (m' ((c : Thread UpReferenceIdeal.nD UpReferenceIdeal.τ).loc UpReferenceIdeal.main_arg3))
      (m' ((c : Thread UpReferenceIdeal.nD UpReferenceIdeal.τ).loc UpReferenceIdeal.main_arg4)) = UpIdeal.Layer.whole m c
  rw [e0, e1, e2, e3, e4]
  funext y
  obtain ⟨r, k, rfl⟩ : ∃ (r : Fin 16384) (k : Fin 5632), y = ix2 r k := ⟨y 0, y 1, eq_ix2 y⟩
  exact UpReferenceIdeal.Layer.result_apply _ _ _ _ _ r k

end Cert.UpLayer
end
-- ==== Proof.Layer.ProjRun.lean ====
/- What the input projection's body computes, over its input blocks: at the first point of a row block the rows are
   normalised, sixteen at a time, into a scratch buffer, which the other points of the row block read. -/
module

public import proofs.«01_k».proof.Proof.Gen.ProjIdeal.Frame
public import proofs.«01_k».proof.Proof.Layer.Rms
public import Idealize.ShloMosaic.Lib.Pipeline.ValueKit
public import Idealize.ShloMosaic.Lib.WholeRead

@[expose] public section

set_option maxRecDepth 16384

noncomputable section

namespace Cert.ProjIdeal.Layer

open Idealize.ShloMosaic Idealize.SL.Sem
open Cert.ProjIdeal Cert.ProjIdeal.Gen Cert.Layer

/-- The rows of a block, normalised, scaled and moved. -/
def normed (x0 : S1024x2048.Idx → EReal) (x1 : S1x2048.Idx → EReal) (x2 x3 : S1x1x2048.Idx → EReal) (a : Fin 1024) (k : Fin 2048) : EReal :=
  moved (fun l => x0 (ix2 a l)) (fun l => x1 (ix2 0 l)) (fun l => x2 (ix3 0 0 l)) (fun l => x3 (ix3 0 0 l)) k

/-- As a buffer. -/
def rows (x0 : S1024x2048.Idx → EReal) (x1 : S1x2048.Idx → EReal) (x2 x3 : S1x1x2048.Idx → EReal) (y : S1024x2048.Idx) : EReal :=
  normed x0 x1 x2 x3 (y 0) (y 1)

theorem chunk_apply (X : FVec Ideal S16x2048 .f32) (G : FVec Ideal S1x2048 .f32) (S T : FVec Ideal S1x1x2048 .f32) (a : Fin 16) (k : Fin 2048) :
    (k0_pay1 (F := Ideal) X G S T (ix2 a k) : EReal)
      = moved (fun l => X (ix2 a l)) (fun l => G (ix2 0 l)) (fun l => S (ix3 0 0 l)) (fun l => T (ix3 0 0 l)) k := by
  pointwise [k0_pay1]
  rfl

theorem off_at (k : Fin k0_t1_loop.trips) : k0_off1 k 0 = 16 * k.val ∧ k0_off1 k 1 = 0 := by
  rw [k0_off1_eq]
  exact ⟨rfl, rfl⟩

/-- The rectangle of sixteen rows that trip `k` reads and writes. -/
abbrev chunkR (i : grid0.Coords) (h : cond0_0 i) (k : Fin k0_t1_loop.trips) : Rect S1024x2048 :=
  Rect.unit (s := S1024x2048) (k0_off1 k) S16x2048.size (k0_off1_inb i k h)
theorem chunk_val (i : grid0.Coords) (h : cond0_0 i) (k : Fin k0_t1_loop.trips) (a : Fin 16) (l : Fin 2048) :
    ((chunkR i h k).emb (ix2 a l) 0).val = 16 * k.val + a.val ∧ ((chunkR i h k).emb (ix2 a l) 1).val = l.val :=
  ⟨(Rect.idx_unit_val _ _ (k0_off1_inb i k h) _ 0).trans (congrArg (· + a.val) (off_at k).1),
    (Rect.idx_unit_val _ _ (k0_off1_inb i k h) _ 1).trans ((congrArg (· + l.val) (off_at k).2).trans (Nat.zero_add _))⟩

/-- The whole of each of the other operands. -/
abbrev gR : Rect S1x2048 := Rect.unit (s := S1x2048) ![0, 0] S1x2048.size inb_S1x2048_S1x2048_0_0
abbrev mR : Rect S1x1x2048 := Rect.unit (s := S1x1x2048) ![0, 0, 0] S1x1x2048.size inb_S1x1x2048_S1x1x2048_0_0_0
abbrev wR : Rect S1x1536x2048 := Rect.unit (s := S1x1536x2048) ![0, 0, 0] S1x1536x2048.size inb_S1x1536x2048_S1x1536x2048_0_0_0
abbrev hR : Rect S1024x2048 := Rect.unit (s := S1024x2048) ![0, 0] S1024x2048.size inb_S1024x2048_S1024x2048_0_0
abbrev oR : Rect S1024x1536 := Rect.unit (s := S1024x1536) ![0, 0] S1024x1536.size inb_S1024x1536_S1024x1536_0_0

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1536x2048 .bf16) (harg6 : arg6.IsWhole) (arg7 : Memref sig .tc .vmem S1024x1536 .bf16) (harg7 : arg7.IsWhole) (arg8 : Memref sig .tc .vmem S1024x2048 .bf16) (harg8 : arg8.IsWhole) (hc0 : cond0_0 i)
  (x0 : Vec Ideal S1024x2048 .f32) (x1 : Vec Ideal S1x2048 .f32) (x2 x3 : Vec Ideal S1x1x2048 .f32) (x4 : Vec Ideal S1x1536x2048 .bf16)

/-- The pieces of the first `n` trips. -/
abbrev pieces (n : Nat) : List (View.Piece (Elt Ideal) S1024x2048 .bf16) :=
  pb_k0_t1 (F := Ideal) Variants.none c none i arg2 harg2 arg3 harg3 arg4 harg4 arg5 harg5 arg6 harg6 arg7 harg7 arg8 harg8 hc0 (harg2.unread x0) (harg3.unread x1) (harg4.unread x2) (harg5.unread x3) n

theorem trip_eq (k : Fin k0_t1_loop.trips) :
    tripL_k0_t1 (F := Ideal) Variants.none c none i arg2 harg2 arg3 harg3 arg4 harg4 arg5 harg5 arg6 harg6 arg7 harg7 arg8 harg8 hc0 (harg2.unread x0) (harg3.unread x1) (harg4.unread x2) (harg5.unread x3) k
      = [⟨chunkR i hc0 k, k0_pay1 (View.readAt (Elt Ideal) arg2.view (chunkR i hc0 k).toLoadRect (harg2.unread x0))
          (View.readAt (Elt Ideal) arg3.view gR.toLoadRect (harg3.unread x1)) (View.readAt (Elt Ideal) arg4.view mR.toLoadRect (harg4.unread x2))
          (View.readAt (Elt Ideal) arg5.view mR.toLoadRect (harg5.unread x3))⟩] := by
  sl_kernel_rfl

theorem scratch_pieces : (kernelRun0_A (F := Ideal) c i arg2 harg2 arg3 harg3 arg4 harg4 arg5 harg5 arg6 harg6 arg7 harg7 arg8 harg8 hc0 x0 x1 x2 x3 x4).2.1 = pieces c i arg2 harg2 arg3 harg3 arg4 harg4 arg5 harg5 arg6 harg6 arg7 harg7 arg8 harg8 hc0 x0 x1 x2 x3 k0_t1_loop.trips := by
  sl_kernel_rfl

theorem stored_A : (kernelRun0_A (F := Ideal) c i arg2 harg2 arg3 harg3 arg4 harg4 arg5 harg5 arg6 harg6 arg7 harg7 arg8 harg8 hc0 x0 x1 x2 x3 x4).1
    = [⟨oR, k0_pay2 (arg8.view.readCov (kernelRun0_A (F := Ideal) c i arg2 harg2 arg3 harg3 arg4 harg4 arg5 harg5 arg6 harg6 arg7 harg7 arg8 harg8 hc0 x0 x1 x2 x3 x4).2.1 hR.toLoadRect)
        (View.readAt (Elt Ideal) arg6.view wR.toLoadRect (harg6.unread x4))⟩] := by
  sl_kernel_rfl

theorem chunk_at (k : Fin k0_t1_loop.trips) (a : Fin 16) (l : Fin 2048) (y : S1024x2048.Idx) (h0 : (y 0).val = 16 * k.val + a.val) (h1 : (y 1).val = l.val) :
    (k0_pay1 (F := Ideal) (View.readAt (Elt Ideal) arg2.view (chunkR i hc0 k).toLoadRect (harg2.unread x0))
      (View.readAt (Elt Ideal) arg3.view gR.toLoadRect (harg3.unread x1)) (View.readAt (Elt Ideal) arg4.view mR.toLoadRect (harg4.unread x2))
      (View.readAt (Elt Ideal) arg5.view mR.toLoadRect (harg5.unread x3)) (ix2 a l) : EReal) = rows x0 x1 x2 x3 y := by
  have e : y 1 = l := Fin.ext h1
  rw [chunk_apply]
  unfold rows normed
  rw [e]
  have e0 : ∀ l, View.readAt (Elt Ideal) arg2.view (chunkR i hc0 k).toLoadRect (harg2.unread x0) (ix2 a l) = x0 (ix2 (y 0) l) := fun l =>
    (harg2.readAt_unread x0 _ _).trans (congrArg x0 (funext fun b => Fin.ext (by
      fin_cases b
      · exact (chunk_val i hc0 k a l).1.trans h0.symm
      · exact (chunk_val i hc0 k a l).2)))
  have e1 : ∀ l, View.readAt (Elt Ideal) arg3.view gR.toLoadRect (harg3.unread x1) (ix2 0 l) = x1 (ix2 0 l) := fun l =>
    (harg3.readAt_unread x1 _ _).trans (congrArg x1 (idx_whole _ (by decide) _))
  have e2 : ∀ l, View.readAt (Elt Ideal) arg4.view mR.toLoadRect (harg4.unread x2) (ix3 0 0 l) = x2 (ix3 0 0 l) := fun l =>
    (harg4.readAt_unread x2 _ _).trans (congrArg x2 (idx_whole _ (by decide) _))
  have e3 : ∀ l, View.readAt (Elt Ideal) arg5.view mR.toLoadRect (harg5.unread x3) (ix3 0 0 l) = x3 (ix3 0 0 l) := fun l =>
    (harg5.readAt_unread x3 _ _).trans (congrArg x3 (idx_whole _ (by decide) _))
  rw [funext e0, funext e1, funext e2, funext e3]

theorem pieces_agree : ∀ (n : Nat) (h : n ≤ k0_t1_loop.trips), ∀ p ∈ pieces c i arg2 harg2 arg3 harg3 arg4 harg4 arg5 harg5 arg6 harg6 arg7 harg7 arg8 harg8 hc0 x0 x1 x2 x3 n, ∀ j, p.2 j = rows x0 x1 x2 x3 (p.1.emb j)
  | 0, _ => fun p hp => absurd hp List.not_mem_nil
  | n + 1, h => by
    intro p hp
    unfold pieces at hp
    rw [pb_k0_t1_succ (k := ⟨n, h⟩), trip_eq] at hp
    rcases List.mem_cons.1 hp with rfl | hp
    · intro j
      obtain ⟨a, l, rfl⟩ : ∃ (a : Fin 16) (l : Fin 2048), j = ix2 a l := ⟨j 0, j 1, eq_ix2 j⟩
      refine chunk_at i arg2 harg2 arg3 harg3 arg4 harg4 arg5 harg5 hc0 x0 x1 x2 x3 ⟨n, h⟩ a l _ (chunk_val i hc0 ⟨n, h⟩ a l).1 (chunk_val i hc0 ⟨n, h⟩ a l).2
    · exact pieces_agree n (Nat.le_of_succ_le h) p hp

theorem scratch_canon (y : S1024x2048.Idx) :
    View.canon (kernelRun0_A (F := Ideal) c i arg2 harg2 arg3 harg3 arg4 harg4 arg5 harg5 arg6 harg6 arg7 harg7 arg8 harg8 hc0 x0 x1 x2 x3 x4).2.1 y = rows x0 x1 x2 x3 y := by
  refine View.canon_apply_of_pieces (rows x0 x1 x2 x3) _ ?_ y (scover0_A_0 (F := Ideal) c i arg2 harg2 arg3 harg3 arg4 harg4 arg5 harg5 arg6 harg6 arg7 harg7 arg8 harg8 hc0 x0 x1 x2 x3 x4 y)
  rw [scratch_pieces]
  exact pieces_agree c i arg2 harg2 arg3 harg3 arg4 harg4 arg5 harg5 arg6 harg6 arg7 harg7 arg8 harg8 hc0 x0 x1 x2 x3 _ (le_refl _)

/-- The first point of a row block leaves the normalised rows in the scratch buffer. -/
theorem scratch_A : sout0_A_0 (F := Ideal) c i arg2 harg2 arg3 harg3 arg4 harg4 arg5 harg5 arg6 harg6 arg7 harg7 arg8 harg8 hc0 x0 x1 x2 x3 x4 = rows x0 x1 x2 x3 := by
  unfold sout0_A_0
  rw [View.read_writes_junk_eq_canon]
  exact funext fun y => scratch_canon c i arg2 harg2 arg3 harg3 arg4 harg4 arg5 harg5 arg6 harg6 arg7 harg7 arg8 harg8 hc0 x0 x1 x2 x3 x4 y

theorem weights_read (v : Memref sig .tc .vmem S1x1536x2048 .bf16) (hv : v.IsWhole) (w : Vec Ideal S1x1536x2048 .bf16) :
    View.readAt (Elt Ideal) v.view wR.toLoadRect (hv.unread w) = w :=
  funext fun j => (hv.readAt_unread w _ j).trans (congrArg w (idx_whole _ (by decide) j))

/-- What it leaves in its block of the result. -/
theorem block_A : out0_A_5 (F := Ideal) c i arg2 harg2 arg3 harg3 arg4 harg4 arg5 harg5 arg6 harg6 arg7 harg7 arg8 harg8 hc0 x0 x1 x2 x3 x4 = k0_pay2 (F := Ideal) (rows x0 x1 x2 x3) x4 := by
  unfold out0_A_5
  rw [View.read_writes_junk_eq_canon, stored_A, View.canon_cons_unit_lit _ _ _ (by decide), weights_read, View.readCov_eq_canon']
  refine congrArg (fun h => k0_pay2 (F := Ideal) h x4) (funext fun j => ?_)
  exact (scratch_canon c i arg2 harg2 arg3 harg3 arg4 harg4 arg5 harg5 arg6 harg6 arg7 harg7 arg8 harg8 hc0 x0 x1 x2 x3 x4 _).trans (congrArg (rows x0 x1 x2 x3) (idx_whole _ (by decide) j))

end

theorem stored_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1536x2048 .bf16) (harg6 : arg6.IsWhole) (arg7 : Memref sig .tc .vmem S1024x1536 .bf16) (harg7 : arg7.IsWhole) (arg8 : Memref sig .tc .vmem S1024x2048 .bf16) (harg8 : arg8.IsWhole) (hc0 : ¬cond0_0 i)
  (x0 : Vec Ideal S1024x2048 .f32) (x1 : Vec Ideal S1x2048 .f32) (x2 x3 : Vec Ideal S1x1x2048 .f32) (x4 : Vec Ideal S1x1536x2048 .bf16) (xs0 : Vec Ideal S1024x2048 .bf16) : (kernelRun0_B (F := Ideal) c i arg2 harg2 arg3 harg3 arg4 harg4 arg5 harg5 arg6 harg6 arg7 harg7 arg8 harg8 hc0 x0 x1 x2 x3 x4 xs0).1
    = [⟨oR, k0_pay2 (View.readAt (Elt Ideal) arg8.view hR.toLoadRect (harg8.unread xs0))
        (View.readAt (Elt Ideal) arg6.view wR.toLoadRect (harg6.unread x4))⟩] := by
  sl_kernel_rfl

/-- What another point leaves in its block of the result, over the scratch buffer. -/
theorem block_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1536x2048 .bf16) (harg6 : arg6.IsWhole) (arg7 : Memref sig .tc .vmem S1024x1536 .bf16) (harg7 : arg7.IsWhole) (arg8 : Memref sig .tc .vmem S1024x2048 .bf16) (harg8 : arg8.IsWhole) (hc0 : ¬cond0_0 i)
  (x0 : Vec Ideal S1024x2048 .f32) (x1 : Vec Ideal S1x2048 .f32) (x2 x3 : Vec Ideal S1x1x2048 .f32) (x4 : Vec Ideal S1x1536x2048 .bf16) (xs0 : Vec Ideal S1024x2048 .bf16) : out0_B_5 (F := Ideal) c i arg2 harg2 arg3 harg3 arg4 harg4 arg5 harg5 arg6 harg6 arg7 harg7 arg8 harg8 hc0 x0 x1 x2 x3 x4 xs0 = k0_pay2 (F := Ideal) xs0 x4 := by
  unfold out0_B_5
  rw [View.read_writes_junk_eq_canon, stored_B, View.canon_cons_unit_lit _ _ _ (by decide), weights_read]
  exact congrArg (fun h => k0_pay2 (F := Ideal) h x4) (funext fun j => (harg8.readAt_unread xs0 _ j).trans (congrArg xs0 (idx_whole _ (by decide) j)))

end Cert.ProjIdeal.Layer
end
-- ==== Proof.Layer.Proj.lean ====
/- The layer's input projection: both programs give, for every row of the residual stream normalised, scaled and moved, its
   product with every row of the weights. -/
module

public import proofs.«01_k».proof.Proof.Gen.ProjIdeal.Value
public import proofs.«01_k».proof.Proof.Gen.ProjReferenceIdeal.Run
public import proofs.«01_k».proof.Proof.Layer.ProjRun

@[expose] public section

set_option maxRecDepth 16384

noncomputable section

namespace Cert.ProjLayer

open Idealize.ShloMosaic

/-- One entry: a row against a row of the weights. -/
def proj (h w : Fin 2048 → EReal) : EReal := ∑ l, h l * w l

end Cert.ProjLayer

namespace Cert.ProjIdeal.Layer

open Idealize.ShloMosaic Idealize.ShloMosaic.TcCoe Idealize.ShloMosaic.Tactic Idealize.SL.Sem
open Cert.ProjIdeal Cert.ProjIdeal.Gen Cert.Layer Cert.ProjLayer

variable (m : (ℓ : Loc nD τ sig) → Buf (Elt Ideal) ℓ) (c : Dev nD)

/-- The residual stream. -/
def x : S4x4096x2048.Idx → EReal := m ((c : Thread nD τ).loc main_arg0)
/-- The normalisation's weights. -/
def g : S2048.Idx → EReal := m ((c : Thread nD τ).loc main_arg1)
/-- The batches' modulation. -/
def mods : S4x12288.Idx → EReal := m ((c : Thread nD τ).loc main_arg2)
/-- The layers' weights, a row for each lane of the result. -/
def w : S2x10752x2048.Idx → EReal := m ((c : Thread nD τ).loc main_arg3)

/-- The stream's rows normalised, scaled and moved by their batch's modulation; batches stacked. -/
def row (r : Fin 16384) (k : Fin 2048) : EReal :=
  moved (fun l => x m c (ix3 ⟨r.val / 4096, by omega⟩ ⟨r.val % 4096, by omega⟩ l)) (fun l => g m c (ix1 l))
    (fun l => mods m c (ix2 ⟨r.val / 4096, by omega⟩ ⟨2048 + l.val, by omega⟩)) (fun l => mods m c (ix2 ⟨r.val / 4096, by omega⟩ ⟨l.val, by omega⟩)) k

/-- The result, batches stacked. -/
def wholeRC (r : Fin 16384) (k : Fin 10752) : EReal :=
  proj (row m c r) (fun l => w m c (ix3 0 k l))

def whole (y : S16384x10752.Idx) : EReal := wholeRC m c (y 0) (y 1)

theorem x_apply (r : Fin 16384) (l : Fin 2048) :
    (V m c main_v0 : S16384x2048.Idx → EReal) (ix2 r l) = x m c (ix3 ⟨r.val / 4096, by omega⟩ ⟨r.val % 4096, by omega⟩ l) := by
  entry_read
  pointwise
  show x m c _ = _
  blk_ext

theorem mods_apply (b : Fin 8) (h : b.val < 4) (k : Fin 12288) :
    (V m c main_v3 : S8x1x12288.Idx → EReal) (ix3 b 0 k) = mods m c (ix2 ⟨b.val, h⟩ k) := by
  entry_read
  pointwise
  rw [dif_pos (by omega)]
  show mods m c _ = _
  blk_ext

theorem w_apply (b : Fin 2) (k : Fin 10752) (l : Fin 2048) : (V m c main_v4 : S2x10752x2048.Idx → EReal) (ix3 b k l) = w m c (ix3 b k l) := by
  entry_read
  pointwise
  rfl

theorem g_apply (k : Fin 2048) : (V m c main_v5 : S1x2048.Idx → EReal) (ix2 0 k) = g m c (ix1 k) := by
  entry_read
  pointwise
  show g m c _ = _
  blk_ext

/-- The blocks a point stages. -/
theorem idx (t : Fin cfg0.N) :
    (win0_0.index t 0 = t.val / 7 ∧ win0_0.index t 1 = 0) ∧
    (win0_1.index t 0 = 0 ∧ win0_1.index t 1 = 0) ∧
    (win0_2.index t 0 = t.val / 28 ∧ win0_2.index t 1 = 0 ∧ win0_2.index t 2 = 1) ∧
    (win0_3.index t 0 = t.val / 28 ∧ win0_3.index t 1 = 0 ∧ win0_3.index t 2 = 0) ∧
    (win0_4.index t 0 = 0 ∧ win0_4.index t 1 = t.val % 7 ∧ win0_4.index t 2 = 0) ∧
    (win0_5.index t 0 = t.val / 7 ∧ win0_5.index t 1 = t.val % 7) := by
  revert t
  decide +kernel

variable (t : Fin cfg0.N)

theorem staged0 (a : Fin 1024) (r : Fin 16384) (hr : r.val = 1024 * (t.val / 7) + a.val) (l : Fin 2048) :
    (iblk m c 0 t : S1024x2048.Idx → EReal) (ix2 a l) = x m c (ix3 ⟨r.val / 4096, by omega⟩ ⟨r.val % 4096, by omega⟩ l) := by
  refine Eq.trans ?_ (x_apply m c r l)
  blk_ext [iblk, idx t]

theorem staged1 (l : Fin 2048) : (iblk m c 1 t : S1x2048.Idx → EReal) (ix2 0 l) = g m c (ix1 l) := by
  refine Eq.trans ?_ (g_apply m c l)
  blk_ext [iblk, idx t]

theorem staged2 (a : Fin 1024) (r : Fin 16384) (hr : r.val = 1024 * (t.val / 7) + a.val) (l : Fin 2048) :
    (iblk m c 2 t : S1x1x2048.Idx → EReal) (ix3 0 0 l) = mods m c (ix2 ⟨r.val / 4096, by omega⟩ ⟨2048 + l.val, by omega⟩) := by
  refine Eq.trans ?_ (mods_apply m c ⟨r.val / 4096, by omega⟩ (by simp only; omega) ⟨2048 + l.val, by omega⟩)
  blk_ext [iblk, idx t]

theorem staged3 (a : Fin 1024) (r : Fin 16384) (hr : r.val = 1024 * (t.val / 7) + a.val) (l : Fin 2048) :
    (iblk m c 3 t : S1x1x2048.Idx → EReal) (ix3 0 0 l) = mods m c (ix2 ⟨r.val / 4096, by omega⟩ ⟨l.val, by omega⟩) := by
  refine Eq.trans ?_ (mods_apply m c ⟨r.val / 4096, by omega⟩ (by simp only; omega) ⟨l.val, by omega⟩)
  blk_ext [iblk, idx t]

theorem staged4 (j : Fin 1536) (k : Fin 10752) (hk : k.val = 1536 * (t.val % 7) + j.val) (l : Fin 2048) :
    (iblk m c 4 t : S1x1536x2048.Idx → EReal) (ix3 0 j l) = w m c (ix3 0 k l) := by
  refine Eq.trans ?_ (w_apply m c 0 k l)
  blk_ext [iblk, idx t]

omit m c t in
theorem rows_at (x0 : S1024x2048.Idx → EReal) (x1 : S1x2048.Idx → EReal) (x2 x3 : S1x1x2048.Idx → EReal) (a : Fin 1024) (l : Fin 2048) :
    rows x0 x1 x2 x3 (ix2 a l) = moved (fun l => x0 (ix2 a l)) (fun l => x1 (ix2 0 l)) (fun l => x2 (ix3 0 0 l)) (fun l => x3 (ix3 0 0 l)) l := rfl

/-- A point's rows are the stream's, normalised, scaled and moved. -/
theorem rows_apply (a : Fin 1024) (r : Fin 16384) (hr : r.val = 1024 * (t.val / 7) + a.val) (l : Fin 2048) :
    rows (iblk m c 0 t) (iblk m c 1 t) (iblk m c 2 t) (iblk m c 3 t) (ix2 a l) = row m c r l := by
  rw [rows_at]
  unfold row
  rw [funext (staged0 m c t a r hr), funext (staged1 m c t), funext (staged2 m c t a r hr), funext (staged3 m c t a r hr)]

omit t in
/-- After every point the scratch buffer holds the rows of its row block. -/
theorem kept : ∀ (n : Nat) (hn : n < cfg0.N) (a : Fin 1024) (r : Fin 16384) (hr : r.val = 1024 * (n / 7) + a.val) (l : Fin 2048),
    ((outsAt0 m c n hn).2 (ix2 a l) : EReal) = row m c r l := by
  intro n
  induction n with
  | zero =>
    intro hn a r hr l
    rw [show outsAt0 m c 0 hn = _ from outsAt0_A m c ⟨0, hn⟩ rfl]
    dsimp only
    rw [scratch_A]
    exact rows_apply m c ⟨0, hn⟩ a r hr l
  | succ n ih =>
    intro hn a r hr l
    by_cases h : (n + 1) % 7 = 0
    · rw [show outsAt0 m c (n + 1) hn = _ from outsAt0_A m c ⟨n + 1, hn⟩ h]
      dsimp only
      rw [scratch_A]
      exact rows_apply m c ⟨n + 1, hn⟩ a r hr l
    · rw [show outsAt0 m c (n + 1) hn = _ from outsAt0_B m c ⟨n + 1, hn⟩ h]
      exact ih (Nat.lt_of_succ_lt hn) a r (by omega) l

omit m c t in
theorem block_apply (H : FVec Ideal S1024x2048 .bf16) (W : FVec Ideal S1x1536x2048 .bf16) (a : Fin 1024) (j : Fin 1536) :
    (k0_pay2 (F := Ideal) H W (ix2 a j) : EReal) = proj (fun l => H (ix2 a l)) (fun l => W (ix3 0 j l)) := by
  pointwise [k0_pay2]
  rfl

/-- What a point leaves in its block of the result. -/
theorem point (a : Fin 1024) (j : Fin 1536) (r : Fin 16384) (hr : r.val = 1024 * (t.val / 7) + a.val) (k : Fin 10752) (hk : k.val = 1536 * (t.val % 7) + j.val) :
    ((outsAt0 m c t.val t.isLt).1 (ix2 a j) : EReal) = wholeRC m c r k := by
  by_cases h : t.val % 7 = 0
  · rw [outsAt0_A m c t h]
    dsimp only
    rw [block_A, block_apply, funext (rows_apply m c t a r hr), funext (staged4 m c t j k hk)]
    rfl
  · rw [outsAt0_B m c t h]
    dsimp only
    rw [block_B, block_apply, funext (kept m c (t.val - 1) (Nat.lt_of_le_of_lt (Nat.sub_le _ _) t.isLt) a r (by omega)),
      funext (staged4 m c t j k hk)]
    rfl

omit t in
theorem final : (dats m 0 c).arrAt 5 cfg0.N = whole m c := by
  refine (dats m 0 c).arrAt_eq_of_covers 5 (whole m c) (by decide +kernel) fun t hf y => ?_
  have hN : t.val < 112 := lt_of_lt_of_eq t.isLt (show cfg0.N = 112 from N_0)
  blk_simp
  rw [after0_5]
  obtain ⟨a, j, rfl⟩ : ∃ (a : Fin 1024) (j : Fin 1536), y = ix2 a j := ⟨y 0, y 1, eq_ix2 y⟩
  have hr : 1024 * (t.val / 7) + a.val < 16384 := by omega
  have hk : 1536 * (t.val % 7) + j.val < 10752 := by omega
  refine (point m c t a j ⟨_, hr⟩ rfl ⟨_, hk⟩ rfl).trans ?_
  show wholeRC m c ⟨_, hr⟩ ⟨_, hk⟩ = wholeRC m c _ _
  refine congrArg₂ (wholeRC m c) (Fin.ext ?_) (Fin.ext ?_) <;> blk_simp [idx t] <;> simp only <;> omega

end Cert.ProjIdeal.Layer

namespace Cert.ProjReferenceIdeal.Layer

open Idealize.ShloMosaic Idealize.ShloMosaic.TcCoe Idealize.ShloMosaic.Tactic Idealize.SL.Sem
open Cert.ProjReferenceIdeal Cert.ProjReferenceIdeal.Gen Cert.Layer Cert.ProjLayer

variable (X : FVec Ideal S4x4096x2048 .f32) (G : FVec Ideal S2048 .f32) (M : FVec Ideal S4x12288 .f32) (W : FVec Ideal S2x10752x2048 .f32)

/-- Each row's factor. -/
def factor : FVec Ideal S4x4096x1 .f32 :=
  Host.rsqrt (addf (Host.divf (broadcastInDim S4x4096x1 ![0, 1] bcast_S4x4096_S4x4096x1_0_1
      (Host.reduceAdd (mulf X X) (constant S_ .f32 0x00000000#32) reducesTo_S4x4096x2048_S4x4096_d2 h_S_))
    (broadcastInDim S4x4096x1 ![] bcast_S_S4x4096x1 (constant S_ .f32 0x45000000#32)))
    (broadcastInDim S4x4096x1 ![] bcast_S_S4x4096x1 (constant S_ .f32 0x358637BD#32)))

/-- The rows normalised, scaled and moved. -/
def rows : FVec Ideal S4x4096x2048 .f32 :=
  addf (mulf (mulf (mulf X (broadcastInDim S4x4096x2048 ![0, 1, 2] bcast_S4x4096x1_S4x4096x2048_0_1_2 (factor X)))
      (broadcastInDim S4x4096x2048 ![0, 1, 2] bcast_S1x1x2048_S4x4096x2048_0_1_2 (broadcastInDim S1x1x2048 ![2] bcast_S2048_S1x1x2048_2 G)))
    (broadcastInDim S4x4096x2048 ![0, 1, 2] bcast_S4x1x2048_S4x4096x2048_0_1_2 (addf (broadcastInDim S4x1x2048 ![] bcast_S_S4x1x2048 (constant S_ .f32 0x3F800000#32))
      (broadcastInDim S4x1x2048 ![0, 2] bcast_S4x2048_S4x1x2048_0_2 (extractStridedSlice S4x2048 ![0, 2048] M slices_S4x12288_S4x2048_0_2048)))))
    (broadcastInDim S4x4096x2048 ![0, 1, 2] bcast_S4x1x2048_S4x4096x2048_0_1_2
      (broadcastInDim S4x1x2048 ![0, 2] bcast_S4x2048_S4x1x2048_0_2 (extractStridedSlice S4x2048 ![0, 0] M slices_S4x12288_S4x2048_0_0)))

/-- Rows against the first layer's weights. -/
def product (H : FVec Ideal S4x4096x2048 .f32) : FVec Ideal S4x4096x10752 .f32 :=
  Host.dotGeneral dot_S4x4096x2048_S2048x10752_S4x4096x10752_2_0_01_1_n_n none H
    (transpose S2048x10752 [1, 0] (shapeCast _ (extractStridedSlice S1x10752x2048 ![0, 0, 0] W slices_S2x10752x2048_S1x10752x2048_0_0_0) shapeCasts_S1x10752x2048_S10752x2048) transposes_S10752x2048_S2048x10752_1_0)

/-- The projected rows. -/
def result : FVec Ideal S16384x10752 .bf16 :=
  truncf .bf16 (shapeCast _ (product W (rows X G M)) shapeCasts_S4x4096x10752_S16384x10752) bitsLt_bf16_f32

theorem factor_apply (b : Fin 4) (i : Fin 4096) : (factor X (ix3 b i 0) : EReal) = rootMean (fun l => X (ix3 b i l)) := by
  pointwise [factor]
  rfl

theorem rows_apply (b : Fin 4) (i : Fin 4096) (k : Fin 2048) : (rows X G M (ix3 b i k) : EReal)
    = moved (fun l => X (ix3 b i l)) (fun l => G (ix1 l)) (fun l => M (ix2 b ⟨2048 + l.val, by omega⟩)) (fun l => M (ix2 b ⟨l.val, by omega⟩)) k := by
  pointwise [rows]
  exact congrArg (fun s : EReal => X _ * s * G (ix1 k) * (1 + M _) + M _) (factor_apply X b i)

theorem product_apply (H : FVec Ideal S4x4096x2048 .f32) (b : Fin 4) (i : Fin 4096) (k : Fin 10752) :
    (product W H (ix3 b i k) : EReal) = ∑ l : Fin 2048, (H (ix3 b i l) : EReal) * W (ix3 0 k l) := by
  pointwise [product]

theorem result_apply (r : Fin 16384) (k : Fin 10752) : (result X G M W (ix2 r k) : EReal)
    = proj (fun k => moved (fun l => X (ix3 ⟨r.val / 4096, by omega⟩ ⟨r.val % 4096, by omega⟩ l)) (fun l => G (ix1 l))
        (fun l => M (ix2 ⟨r.val / 4096, by omega⟩ ⟨2048 + l.val, by omega⟩)) (fun l => M (ix2 ⟨r.val / 4096, by omega⟩ ⟨l.val, by omega⟩)) k)
      (fun l => W (ix3 0 k l)) := by
  pointwise [result]
  rw [product_apply]
  simp only [rows_apply]
  rfl

end Cert.ProjReferenceIdeal.Layer

namespace Cert.ProjLayer

open Idealize.ShloMosaic Idealize.ShloMosaic.TcCoe Idealize.SL.Sem

/-- Both programs give the same rows. -/
theorem whole_eq (m : (ℓ : Loc ProjIdeal.nD ProjIdeal.τ ProjIdeal.sig) → Buf (Elt Ideal) ℓ)
    (m' : (ℓ : Loc ProjReferenceIdeal.nD ProjReferenceIdeal.τ ProjReferenceIdeal.sig) → Buf (Elt Ideal) ℓ) (c : Dev ProjIdeal.nD)
    (e0 : m' ((c : Thread ProjReferenceIdeal.nD ProjReferenceIdeal.τ).loc ProjReferenceIdeal.main_arg0) = m ((c : Thread ProjIdeal.nD ProjIdeal.τ).loc ProjIdeal.main_arg0))
    (e1 : m' ((c : Thread ProjReferenceIdeal.nD ProjReferenceIdeal.τ).loc ProjReferenceIdeal.main_arg1) = m ((c : Thread ProjIdeal.nD ProjIdeal.τ).loc ProjIdeal.main_arg1))
    (e2 : m' ((c : Thread ProjReferenceIdeal.nD ProjReferenceIdeal.τ).loc ProjReferenceIdeal.main_arg2) = m ((c : Thread ProjIdeal.nD ProjIdeal.τ).loc ProjIdeal.main_arg2))
    (e3 : m' ((c : Thread ProjReferenceIdeal.nD ProjReferenceIdeal.τ).loc ProjReferenceIdeal.main_arg3) = m ((c : Thread ProjIdeal.nD ProjIdeal.τ).loc ProjIdeal.main_arg3)) :
    ProjReferenceIdeal.Layer.result (m' ((c : Thread ProjReferenceIdeal.nD ProjReferenceIdeal.τ).loc ProjReferenceIdeal.main_arg0))
      (m' ((c : Thread ProjReferenceIdeal.nD ProjReferenceIdeal.τ).loc ProjReferenceIdeal.main_arg1))
      (m' ((c : Thread ProjReferenceIdeal.nD ProjReferenceIdeal.τ).loc ProjReferenceIdeal.main_arg2))
      (m' ((c : Thread ProjReferenceIdeal.nD ProjReferenceIdeal.τ).loc ProjReferenceIdeal.main_arg3)) = ProjIdeal.Layer.whole m c := by
  rw [e0, e1, e2, e3]
  funext y
  obtain ⟨r, k, rfl⟩ : ∃ (r : Fin 16384) (k : Fin 10752), y = ix2 r k := ⟨y 0, y 1, eq_ix2 y⟩
  exact ProjReferenceIdeal.Layer.result_apply _ _ _ _ r k

end Cert.ProjLayer
end
-- ==== Proof.Layer.Merge.lean ====
/- The merge of the three branches of a layer: each branch's product with its weights, gated, and their sum. The kernel reads
   the first branch from two arrays, one for each half of a batch's positions. -/
module

public import proofs.«01_k».proof.Proof.Gen.MergeIdeal.Value
public import proofs.«01_k».proof.Proof.Gen.MergeReferenceIdeal.Run
public import Idealize.ShloMosaic.Lib.Pipeline.ValueKit

@[expose] public section

set_option maxRecDepth 16384

noncomputable section

namespace Cert.MergeLayer

open Idealize.ShloMosaic

/-- A gate: the sigmoid of an input and its bias. -/
def gate (z b : EReal) : EReal := Ideal.div 1 (1 + Ideal.exp (-(z + b)))

/-- A branch's entry: its gate times a row against a column. -/
def branch {n : Nat} (z b : EReal) (h w : Fin n → EReal) : EReal := gate z b * ∑ l, h l * w l

end Cert.MergeLayer

namespace Cert.MergeIdeal.Layer

open Idealize.ShloMosaic Idealize.ShloMosaic.TcCoe Idealize.ShloMosaic.Tactic Idealize.SL.Sem
open Cert.MergeIdeal Cert.MergeIdeal.Gen Cert.MergeLayer

variable (m : (ℓ : Loc nD τ sig) → Buf (Elt Ideal) ℓ) (c : Dev nD)

/-- The first branch's rows. -/
def yf : S4x4096x1024.Idx → EReal := m ((c : Thread nD τ).loc main_arg0)
/-- The second branch's rows. -/
def yc : S4x4096x1024.Idx → EReal := m ((c : Thread nD τ).loc main_arg1)
/-- The third branch's rows. -/
def oa : S4x4096x2048.Idx → EReal := m ((c : Thread nD τ).loc main_arg2)
/-- The projected rows; the gates' inputs are their last columns. -/
def proj : S4x4096x10560.Idx → EReal := m ((c : Thread nD τ).loc main_arg3)
/-- The gates' biases. -/
def bias : S2x6144.Idx → EReal := m ((c : Thread nD τ).loc main_arg4)
/-- The first branch's weights. -/
def wf : S2x1024x2048.Idx → EReal := m ((c : Thread nD τ).loc main_arg5)
/-- The second branch's weights. -/
def wc : S2x1024x2048.Idx → EReal := m ((c : Thread nD τ).loc main_arg6)
/-- The third branch's weights. -/
def wa : S2x2048x2048.Idx → EReal := m ((c : Thread nD τ).loc main_arg7)

/-- The merged rows, batches stacked. -/
def wholeRC (r : Fin 16384) (k : Fin 2048) : EReal :=
  branch (proj m c (ix3 ⟨r.val / 4096, by omega⟩ ⟨r.val % 4096, by omega⟩ ⟨4416 + k.val, by omega⟩)) (bias m c (ix2 0 ⟨k.val, by omega⟩))
      (fun l => yf m c (ix3 ⟨r.val / 4096, by omega⟩ ⟨r.val % 4096, by omega⟩ l)) (fun l => wf m c (ix3 0 l k))
    + branch (proj m c (ix3 ⟨r.val / 4096, by omega⟩ ⟨r.val % 4096, by omega⟩ ⟨6464 + k.val, by omega⟩)) (bias m c (ix2 0 ⟨2048 + k.val, by omega⟩))
      (fun l => yc m c (ix3 ⟨r.val / 4096, by omega⟩ ⟨r.val % 4096, by omega⟩ l)) (fun l => wc m c (ix3 0 l k))
    + branch (proj m c (ix3 ⟨r.val / 4096, by omega⟩ ⟨r.val % 4096, by omega⟩ ⟨8512 + k.val, by omega⟩)) (bias m c (ix2 0 ⟨4096 + k.val, by omega⟩))
      (fun l => oa m c (ix3 ⟨r.val / 4096, by omega⟩ ⟨r.val % 4096, by omega⟩ l)) (fun l => wa m c (ix3 0 l k))

def whole (y : S16384x2048.Idx) : EReal := wholeRC m c (y 0) (y 1)

theorem yd_apply (s : Fin 8192) (l : Fin 1024) :
    (V m c main_v3 : S8192x1024.Idx → EReal) (ix2 s l) = yf m c (ix3 ⟨s.val / 2048, by omega⟩ ⟨s.val % 2048, by omega⟩ l) := by
  entry_read
  pointwise
  show yf m c _ = _
  blk_ext

theorem ym_apply (s : Fin 8192) (l : Fin 1024) :
    (V m c main_v5 : S8192x1024.Idx → EReal) (ix2 s l) = yf m c (ix3 ⟨s.val / 2048, by omega⟩ ⟨2048 + s.val % 2048, by omega⟩ l) := by
  entry_read
  pointwise
  show yf m c _ = _
  blk_ext

theorem yc_apply (r : Fin 16384) (l : Fin 1024) :
    (V m c main_v7 : S16384x1024.Idx → EReal) (ix2 r l) = yc m c (ix3 ⟨r.val / 4096, by omega⟩ ⟨r.val % 4096, by omega⟩ l) := by
  entry_read
  pointwise
  show yc m c _ = _
  blk_ext

theorem oa_apply (r : Fin 16384) (l : Fin 2048) :
    (V m c main_v9 : S16384x2048.Idx → EReal) (ix2 r l) = oa m c (ix3 ⟨r.val / 4096, by omega⟩ ⟨r.val % 4096, by omega⟩ l) := by
  entry_read
  pointwise
  show oa m c _ = _
  blk_ext

/-- Five groups of columns side by side. -/
def side (A : FVec Ideal S4x4096x3072 .f32) (B : FVec Ideal S4x4096x576 .f32) (Z : FVec Ideal S4x4096x192 .f32) (D : FVec Ideal S4x4096x768 .f32)
    (E : FVec Ideal S4x4096x6144 .f32) : FVec Ideal S4x4096x10752 .f32 :=
  concatenate S4x4096x10752 2 [⟨S4x4096x3072, A⟩, ⟨S4x4096x576, B⟩, ⟨S4x4096x192, Z⟩, ⟨S4x4096x768, D⟩, ⟨S4x4096x6144, E⟩]
    concatenates_S4x4096x3072_S4x4096x576_S4x4096x192_S4x4096x768_S4x4096x6144_S4x4096x10752_d2

/-- The last of them. -/
theorem side_apply (A : FVec Ideal S4x4096x3072 .f32) (B : FVec Ideal S4x4096x576 .f32) (Z : FVec Ideal S4x4096x192 .f32) (D : FVec Ideal S4x4096x768 .f32)
    (E : FVec Ideal S4x4096x6144 .f32) (b : Fin 4) (i : Fin 4096) (k : Fin 10752) (h : 4608 ≤ k.val) :
    (side A B Z D E (ix3 b i k) : EReal) = E (ix3 b i ⟨k.val - 4608, by omega⟩) := by
  pointwise [side]
  rw [dif_neg (by omega), dif_neg (by omega), dif_neg (by omega), dif_neg (by omega)]
  blk_ext

theorem proj_eq : V m c main_v17 = (truncf .bf16 (shapeCast S16384x10752 (side
    (extractStridedSlice S4x4096x3072 ![0, 0, 0] (proj m c) slices_S4x4096x10560_S4x4096x3072_0_0_0)
    (extractStridedSlice S4x4096x576 ![0, 0, 3840] (proj m c) slices_S4x4096x10560_S4x4096x576_0_0_3840)
    (broadcastInDim S4x4096x192 ![] bcast_S_S4x4096x192 (constant S_ .f32 0x00000000#32))
    (extractStridedSlice S4x4096x768 ![0, 0, 3072] (proj m c) slices_S4x4096x10560_S4x4096x768_0_0_3072)
    (extractStridedSlice S4x4096x6144 ![0, 0, 4416] (proj m c) slices_S4x4096x10560_S4x4096x6144_0_0_4416))
      shapeCasts_S4x4096x10752_S16384x10752) bitsLt_bf16_f32 : FVec Ideal S16384x10752 .bf16) := by
  sl_kernel_rfl

theorem proj_apply (r : Fin 16384) (k : Fin 10752) (h : 4608 ≤ k.val) :
    (V m c main_v17 : S16384x10752.Idx → EReal) (ix2 r k) = proj m c (ix3 ⟨r.val / 4096, by omega⟩ ⟨r.val % 4096, by omega⟩ ⟨k.val - 192, by omega⟩) := by
  rw [proj_eq]
  pointwise
  refine (side_apply _ _ _ _ _ ⟨r.val / 4096, by omega⟩ ⟨r.val % 4096, by omega⟩ k h).trans ?_
  pointwise
  blk_ext

theorem bias_apply (b : Fin 2) (k : Fin 6144) : (V m c main_v18 : S2x1x6144.Idx → EReal) (ix3 b 0 k) = bias m c (ix2 b k) := by
  entry_read
  pointwise
  show bias m c _ = _
  blk_ext

theorem wf_apply (b : Fin 2) (l : Fin 1024) (k : Fin 2048) : (V m c main_v19 : S2x1024x2048.Idx → EReal) (ix3 b l k) = wf m c (ix3 b l k) := by
  entry_read
  pointwise
  rfl

theorem wc_apply (b : Fin 2) (l : Fin 1024) (k : Fin 2048) : (V m c main_v20 : S2x1024x2048.Idx → EReal) (ix3 b l k) = wc m c (ix3 b l k) := by
  entry_read
  pointwise
  rfl

theorem wa_apply (b : Fin 2) (l : Fin 2048) (k : Fin 2048) : (V m c main_v21 : S2x2048x2048.Idx → EReal) (ix3 b l k) = wa m c (ix3 b l k) := by
  entry_read
  pointwise
  rfl

/-- The blocks of rows a point stages. -/
theorem idx (t : Fin cfg0.N) :
    (win0_0.index t 0 = t.val / 16 * 2 + min (t.val / 4 % 4) 1 ∧ win0_0.index t 1 = 0) ∧
    (win0_1.index t 0 = t.val / 16 * 2 + (t.val / 4 % 4 - 2) ∧ win0_1.index t 1 = 0) ∧
    (win0_2.index t 0 = t.val / 4 ∧ win0_2.index t 1 = 0) ∧ (win0_3.index t 0 = t.val / 4 ∧ win0_3.index t 1 = 0) ∧
    (win0_13.index t 0 = t.val / 4 ∧ win0_13.index t 1 = t.val % 4) := by
  revert t
  decide +kernel

/-- The blocks of gates and biases a point stages. -/
theorem idx_gates (t : Fin cfg0.N) :
    (win0_4.index t 0 = t.val / 4 ∧ win0_4.index t 1 = 9 + t.val % 4) ∧ (win0_5.index t 0 = t.val / 4 ∧ win0_5.index t 1 = 13 + t.val % 4) ∧
    (win0_6.index t 0 = t.val / 4 ∧ win0_6.index t 1 = 17 + t.val % 4) ∧
    (win0_7.index t 0 = 0 ∧ win0_7.index t 1 = 0 ∧ win0_7.index t 2 = t.val % 4) ∧
    (win0_8.index t 0 = 0 ∧ win0_8.index t 1 = 0 ∧ win0_8.index t 2 = 4 + t.val % 4) ∧
    (win0_9.index t 0 = 0 ∧ win0_9.index t 1 = 0 ∧ win0_9.index t 2 = 8 + t.val % 4) := by
  revert t
  decide +kernel

/-- The blocks of weights a point stages. -/
theorem idx_weights (t : Fin cfg0.N) :
    (win0_10.index t 0 = 0 ∧ win0_10.index t 1 = 0 ∧ win0_10.index t 2 = t.val % 4) ∧
    (win0_11.index t 0 = 0 ∧ win0_11.index t 1 = 0 ∧ win0_11.index t 2 = t.val % 4) ∧
    (win0_12.index t 0 = 0 ∧ win0_12.index t 1 = 0 ∧ win0_12.index t 2 = t.val % 4) := by
  revert t
  decide +kernel

/-- Whether a point's rows lie in the first half of their batch, as the body decides it. -/
def first (i : grid0.Coords) : BitVec 1 :=
  let q : BitVec 32 := Scalar.select (Scalar.cmpi .eq 4#32 0#32) 1#32 4#32
  let r : BitVec 32 := Scalar.remsi (BitVec.ofNat 32 (i 0).val) q
  Scalar.cmpi .slt (Scalar.select (Scalar.andi (Scalar.xori (Scalar.cmpi .slt r 0#32) (Scalar.cmpi .slt q 0#32)) (Scalar.cmpi .ne r 0#32))
    (Scalar.addi r q) r) 2#32

theorem first_eq (t : Fin cfg0.N) : first (grid0.coords t) = if t.val % 16 < 8 then 1#1 else 0#1 := by
  revert t
  decide +kernel

/-- The first branch's block, from the rows picked. -/
def opening (Y : FVec Ideal S1024x1024 .bf16) (G : FVec Ideal S1024x512 .bf16) (B : FVec Ideal S1x1x512 .f32) (W : FVec Ideal S1x1024x512 .bf16) :
    FVec Ideal S1024x512 .f32 :=
  mulf (logistic (addf (extf .f32 (shapeCast S1024x512 G shapeCasts_S1024x512_S1024x512) bitsLt_bf16_f32)
      (broadcastTo S1024x512 (shapeCast S1x512 B shapeCasts_S1x1x512_S1x512) broadcasts_S1x512_S1024x512)))
    (matmul dot_S1024x1024_S1024x512_S1024x512_1_0_0_1_n_n none Y (shapeCast S1024x512 W shapeCasts_S1x1024x512_S1024x512)
      (constant S1024x512 .f32 0x00000000#32))

theorem opening_eq (i : grid0.Coords) (D M : FVec Ideal S1024x1024 .bf16) (G : FVec Ideal S1024x512 .bf16) (B : FVec Ideal S1x1x512 .f32)
    (W : FVec Ideal S1x1024x512 .bf16) : k0_pay2 (F := Ideal) i D M G B W
      = opening (Scalar.select (first i) (shapeCast S1024x1024 D shapeCasts_S1024x1024_S1024x1024)
        (shapeCast S1024x1024 M shapeCasts_S1024x1024_S1024x1024)) G B W := rfl

theorem kept_apply (D : FVec Ideal S1024x1024 .bf16) (a l : Fin 1024) :
    (shapeCast S1024x1024 D shapeCasts_S1024x1024_S1024x1024 (ix2 a l) : EReal) = D (ix2 a l) := by
  pointwise

theorem block_apply (Y C : FVec Ideal S1024x1024 .bf16) (O : FVec Ideal S1024x2048 .bf16) (G₀ G₁ G₂ : FVec Ideal S1024x512 .bf16)
    (B₀ B₁ B₂ : FVec Ideal S1x1x512 .f32) (W₀ W₁ : FVec Ideal S1x1024x512 .bf16) (W₂ : FVec Ideal S1x2048x512 .bf16) (a : Fin 1024) (j : Fin 512) :
    (k0_pay1 (F := Ideal) (opening Y G₀ B₀ W₀) (k0_pay3 G₁) (k0_pay4 B₁) C W₁ G₂ B₂ O W₂ (ix2 a j) : EReal)
      = branch (G₀ (ix2 a j)) (B₀ (ix3 0 0 j)) (fun l => Y (ix2 a l)) (fun l => W₀ (ix3 0 l j))
        + branch (G₁ (ix2 a j)) (B₁ (ix3 0 0 j)) (fun l => C (ix2 a l)) (fun l => W₁ (ix3 0 l j))
        + branch (G₂ (ix2 a j)) (B₂ (ix3 0 0 j)) (fun l => O (ix2 a l)) (fun l => W₂ (ix3 0 l j)) := by
  pointwise [k0_pay1, opening, k0_pay3, k0_pay4]
  rfl

variable (t : Fin cfg0.N)

section rows

variable (a : Fin 1024) (r : Fin 16384) (hr : r.val = 1024 * (t.val / 4) + a.val)

include hr

theorem staged_first (h : t.val % 16 < 8) (l : Fin 1024) :
    (iblk m c 0 t : S1024x1024.Idx → EReal) (ix2 a l) = yf m c (ix3 ⟨r.val / 4096, by omega⟩ ⟨r.val % 4096, by omega⟩ l) := by
  refine Eq.trans ?_ ((yd_apply m c ⟨2048 * (r.val / 4096) + r.val % 4096, by omega⟩ l).trans ?_)
  · blk_ext [iblk, idx t]
  · blk_ext

theorem staged_second (h : ¬ t.val % 16 < 8) (l : Fin 1024) :
    (iblk m c 1 t : S1024x1024.Idx → EReal) (ix2 a l) = yf m c (ix3 ⟨r.val / 4096, by omega⟩ ⟨r.val % 4096, by omega⟩ l) := by
  refine Eq.trans ?_ ((ym_apply m c ⟨2048 * (r.val / 4096) + (r.val % 4096 - 2048), by omega⟩ l).trans ?_)
  · blk_ext [iblk, idx t]
  · blk_ext

/-- The rows picked are the point's. -/
theorem staged_picked (l : Fin 1024) :
    (Scalar.select (first (grid0.coords t)) (shapeCast S1024x1024 (iblk m c 0 t : FVec Ideal S1024x1024 .bf16) shapeCasts_S1024x1024_S1024x1024)
      (shapeCast S1024x1024 (iblk m c 1 t : FVec Ideal S1024x1024 .bf16) shapeCasts_S1024x1024_S1024x1024) (ix2 a l) : EReal)
      = yf m c (ix3 ⟨r.val / 4096, by omega⟩ ⟨r.val % 4096, by omega⟩ l) := by
  rw [first_eq]
  split
  · exact (kept_apply _ a l).trans (staged_first m c t a r hr ‹_› l)
  · exact (kept_apply _ a l).trans (staged_second m c t a r hr ‹_› l)

theorem staged2 (l : Fin 1024) :
    (iblk m c 2 t : S1024x1024.Idx → EReal) (ix2 a l) = yc m c (ix3 ⟨r.val / 4096, by omega⟩ ⟨r.val % 4096, by omega⟩ l) := by
  refine Eq.trans ?_ (yc_apply m c r l)
  blk_ext [iblk, idx t]

theorem staged3 (l : Fin 2048) :
    (iblk m c 3 t : S1024x2048.Idx → EReal) (ix2 a l) = oa m c (ix3 ⟨r.val / 4096, by omega⟩ ⟨r.val % 4096, by omega⟩ l) := by
  refine Eq.trans ?_ (oa_apply m c r l)
  blk_ext [iblk, idx t]

end rows

section columns

variable (j : Fin 512) (k : Fin 2048) (hk : k.val = 512 * (t.val % 4) + j.val)

include hk

theorem staged7 : (iblk m c 7 t : S1x1x512.Idx → EReal) (ix3 0 0 j) = bias m c (ix2 0 ⟨k.val, by omega⟩) := by
  refine Eq.trans ?_ (bias_apply m c 0 ⟨k.val, by omega⟩)
  blk_ext [iblk, idx_gates t]

theorem staged8 : (iblk m c 8 t : S1x1x512.Idx → EReal) (ix3 0 0 j) = bias m c (ix2 0 ⟨2048 + k.val, by omega⟩) := by
  refine Eq.trans ?_ (bias_apply m c 0 ⟨2048 + k.val, by omega⟩)
  blk_ext [iblk, idx_gates t]

theorem staged9 : (iblk m c 9 t : S1x1x512.Idx → EReal) (ix3 0 0 j) = bias m c (ix2 0 ⟨4096 + k.val, by omega⟩) := by
  refine Eq.trans ?_ (bias_apply m c 0 ⟨4096 + k.val, by omega⟩)
  blk_ext [iblk, idx_gates t]

theorem staged10 (l : Fin 1024) : (iblk m c 10 t : S1x1024x512.Idx → EReal) (ix3 0 l j) = wf m c (ix3 0 l k) := by
  refine Eq.trans ?_ (wf_apply m c 0 l k)
  blk_ext [iblk, idx_weights t]

theorem staged11 (l : Fin 1024) : (iblk m c 11 t : S1x1024x512.Idx → EReal) (ix3 0 l j) = wc m c (ix3 0 l k) := by
  refine Eq.trans ?_ (wc_apply m c 0 l k)
  blk_ext [iblk, idx_weights t]

theorem staged12 (l : Fin 2048) : (iblk m c 12 t : S1x2048x512.Idx → EReal) (ix3 0 l j) = wa m c (ix3 0 l k) := by
  refine Eq.trans ?_ (wa_apply m c 0 l k)
  blk_ext [iblk, idx_weights t]

end columns

section entries

variable (a : Fin 1024) (r : Fin 16384) (hr : r.val = 1024 * (t.val / 4) + a.val) (j : Fin 512) (k : Fin 2048) (hk : k.val = 512 * (t.val % 4) + j.val)

include hr hk

theorem staged4 : (iblk m c 4 t : S1024x512.Idx → EReal) (ix2 a j)
    = proj m c (ix3 ⟨r.val / 4096, by omega⟩ ⟨r.val % 4096, by omega⟩ ⟨4416 + k.val, by omega⟩) := by
  refine Eq.trans ?_ ((proj_apply m c r ⟨4608 + k.val, by omega⟩ (by simp only; omega)).trans ?_)
  · blk_ext [iblk, idx_gates t]
  · blk_ext

theorem staged5 : (iblk m c 5 t : S1024x512.Idx → EReal) (ix2 a j)
    = proj m c (ix3 ⟨r.val / 4096, by omega⟩ ⟨r.val % 4096, by omega⟩ ⟨6464 + k.val, by omega⟩) := by
  refine Eq.trans ?_ ((proj_apply m c r ⟨6656 + k.val, by omega⟩ (by simp only; omega)).trans ?_)
  · blk_ext [iblk, idx_gates t]
  · blk_ext

theorem staged6 : (iblk m c 6 t : S1024x512.Idx → EReal) (ix2 a j)
    = proj m c (ix3 ⟨r.val / 4096, by omega⟩ ⟨r.val % 4096, by omega⟩ ⟨8512 + k.val, by omega⟩) := by
  refine Eq.trans ?_ ((proj_apply m c r ⟨8704 + k.val, by omega⟩ (by simp only; omega)).trans ?_)
  · blk_ext [iblk, idx_gates t]
  · blk_ext

end entries

omit t in
theorem final : (dats m 0 c).arrAt 13 cfg0.N = whole m c := by
  refine (dats m 0 c).arrAt_eq_of_covers 13 (whole m c) (by decide +kernel) fun t hf y => ?_
  have hN : t.val < 64 := lt_of_lt_of_eq t.isLt (show cfg0.N = 64 from N_0)
  blk_simp
  rw [after0_13]
  frame_out
  obtain ⟨a, j, rfl⟩ : ∃ (a : Fin 1024) (j : Fin 512), y = ix2 a j := ⟨y 0, y 1, eq_ix2 y⟩
  rw [opening_eq, block_apply]
  have hr : 1024 * (t.val / 4) + a.val < 16384 := by omega
  have hk : 512 * (t.val % 4) + j.val < 2048 := by omega
  rw [staged4 m c t a ⟨_, hr⟩ rfl j ⟨_, hk⟩ rfl, staged5 m c t a ⟨_, hr⟩ rfl j ⟨_, hk⟩ rfl, staged6 m c t a ⟨_, hr⟩ rfl j ⟨_, hk⟩ rfl,
    staged7 m c t j ⟨_, hk⟩ rfl, staged8 m c t j ⟨_, hk⟩ rfl, staged9 m c t j ⟨_, hk⟩ rfl, funext (staged_picked m c t a ⟨_, hr⟩ rfl),
    funext (staged2 m c t a ⟨_, hr⟩ rfl), funext (staged3 m c t a ⟨_, hr⟩ rfl), funext (staged10 m c t j ⟨_, hk⟩ rfl),
    funext (staged11 m c t j ⟨_, hk⟩ rfl), funext (staged12 m c t j ⟨_, hk⟩ rfl)]
  show wholeRC m c ⟨_, hr⟩ ⟨_, hk⟩ = wholeRC m c _ _
  refine congrArg₂ (wholeRC m c) (Fin.ext ?_) (Fin.ext ?_) <;> blk_simp [idx t] <;> simp only <;> omega

end Cert.MergeIdeal.Layer

namespace Cert.MergeReferenceIdeal.Layer

open Idealize.ShloMosaic Idealize.ShloMosaic.TcCoe Idealize.ShloMosaic.Tactic Idealize.SL.Sem
open Cert.MergeReferenceIdeal Cert.MergeReferenceIdeal.Gen Cert.MergeLayer

variable (Y C : FVec Ideal S4x4096x1024 .f32) (O : FVec Ideal S4x4096x2048 .f32) (P : FVec Ideal S4x4096x10560 .f32) (B : FVec Ideal S2x6144 .f32)
  (U V : FVec Ideal S2x1024x2048 .f32) (W : FVec Ideal S2x2048x2048 .f32)

/-- All gates. -/
def gates : FVec Ideal S4x4096x6144 .f32 :=
  Host.divf (broadcastInDim S4x4096x6144 ![] bcast_S_S4x4096x6144 (constant S_ .f32 0x3F800000#32))
    (addf (broadcastInDim S4x4096x6144 ![] bcast_S_S4x4096x6144 (constant S_ .f32 0x3F800000#32)) (Host.exp (Host.negf
      (addf (extractStridedSlice S4x4096x6144 ![0, 0, 4416] P slices_S4x4096x10560_S4x4096x6144_0_0_4416)
        (broadcastInDim S4x4096x6144 ![0, 1, 2] bcast_S1x1x6144_S4x4096x6144_0_1_2 (broadcastInDim S1x1x6144 ![2] bcast_S6144_S1x1x6144_2
          (shapeCast _ (extractStridedSlice S1x6144 ![0, 0] B slices_S2x6144_S1x6144_0_0) shapeCasts_S1x6144_S6144)))))))

/-- Rows against the first layer's weights, the first two branches. -/
def product (Y : FVec Ideal S4x4096x1024 .f32) (U : FVec Ideal S2x1024x2048 .f32) : FVec Ideal S4x4096x2048 .f32 :=
  Host.dotGeneral dot_S4x4096x1024_S1024x2048_S4x4096x2048_2_0_01_1_n_n none Y
    (shapeCast _ (extractStridedSlice S1x1024x2048 ![0, 0, 0] U slices_S2x1024x2048_S1x1024x2048_0_0_0) shapeCasts_S1x1024x2048_S1024x2048)

/-- Rows against the first layer's weights, the third branch. -/
def product₃ : FVec Ideal S4x4096x2048 .f32 :=
  Host.dotGeneral dot_S4x4096x2048_S2048x2048_S4x4096x2048_2_0_01_1_n_n none O
    (shapeCast _ (extractStridedSlice S1x2048x2048 ![0, 0, 0] W slices_S2x2048x2048_S1x2048x2048_0_0_0) shapeCasts_S1x2048x2048_S2048x2048)

/-- The branches, gated and added. -/
def result : FVec Ideal S16384x2048 .bf16 :=
  truncf .bf16 (shapeCast _ (addf (addf
    (mulf (extractStridedSlice S4x4096x2048 ![0, 0, 0] (gates P B) slices_S4x4096x6144_S4x4096x2048_0_0_0) (product Y U))
    (mulf (extractStridedSlice S4x4096x2048 ![0, 0, 2048] (gates P B) slices_S4x4096x6144_S4x4096x2048_0_0_2048) (product C V)))
    (mulf (extractStridedSlice S4x4096x2048 ![0, 0, 4096] (gates P B) slices_S4x4096x6144_S4x4096x2048_0_0_4096) (product₃ O W)))
    shapeCasts_S4x4096x2048_S16384x2048) bitsLt_bf16_f32

theorem gates_apply (b : Fin 4) (i : Fin 4096) (k : Fin 6144) :
    (gates P B (ix3 b i k) : EReal) = gate (P (ix3 b i ⟨4416 + k.val, by omega⟩)) (B (ix2 0 k)) := by
  pointwise [gates]
  rfl

theorem product_apply (Y : FVec Ideal S4x4096x1024 .f32) (U : FVec Ideal S2x1024x2048 .f32) (b : Fin 4) (i : Fin 4096) (k : Fin 2048) :
    (product Y U (ix3 b i k) : EReal) = ∑ l : Fin 1024, (Y (ix3 b i l) : EReal) * U (ix3 0 l k) := by
  pointwise [product]

theorem product₃_apply (b : Fin 4) (i : Fin 4096) (k : Fin 2048) :
    (product₃ O W (ix3 b i k) : EReal) = ∑ l : Fin 2048, (O (ix3 b i l) : EReal) * W (ix3 0 l k) := by
  pointwise [product₃]

theorem result_apply (r : Fin 16384) (k : Fin 2048) : (result Y C O P B U V W (ix2 r k) : EReal)
    = branch (P (ix3 ⟨r.val / 4096, by omega⟩ ⟨r.val % 4096, by omega⟩ ⟨4416 + k.val, by omega⟩)) (B (ix2 0 ⟨k.val, by omega⟩))
        (fun l => Y (ix3 ⟨r.val / 4096, by omega⟩ ⟨r.val % 4096, by omega⟩ l)) (fun l => U (ix3 0 l k))
      + branch (P (ix3 ⟨r.val / 4096, by omega⟩ ⟨r.val % 4096, by omega⟩ ⟨6464 + k.val, by omega⟩)) (B (ix2 0 ⟨2048 + k.val, by omega⟩))
        (fun l => C (ix3 ⟨r.val / 4096, by omega⟩ ⟨r.val % 4096, by omega⟩ l)) (fun l => V (ix3 0 l k))
      + branch (P (ix3 ⟨r.val / 4096, by omega⟩ ⟨r.val % 4096, by omega⟩ ⟨8512 + k.val, by omega⟩)) (B (ix2 0 ⟨4096 + k.val, by omega⟩))
        (fun l => O (ix3 ⟨r.val / 4096, by omega⟩ ⟨r.val % 4096, by omega⟩ l)) (fun l => W (ix3 0 l k)) := by
  have e : ∀ (n : Nat) (h : n + k.val < 6144) (h' : 4416 + n + k.val < 10560), (gates P B (ix3 ⟨r.val / 4096, by omega⟩ ⟨r.val % 4096, by omega⟩ ⟨n + k.val, h⟩) : EReal)
      = gate (P (ix3 ⟨r.val / 4096, by omega⟩ ⟨r.val % 4096, by omega⟩ ⟨4416 + n + k.val, h'⟩)) (B (ix2 0 ⟨n + k.val, h⟩)) := fun n h h' =>
    (gates_apply P B _ _ _).trans (by simp only [Nat.add_assoc])
  pointwise [result]
  rw [product_apply, product_apply, product₃_apply]
  refine congrArg₂ (· + ·) (congrArg₂ (· + ·) (congrArg (· * _) ?_) (congrArg (· * _) ?_)) (congrArg (· * _) ?_)
  · exact gates_apply P B _ _ ⟨k.val, by omega⟩
  · exact e 2048 (by omega) (by omega)
  · exact e 4096 (by omega) (by omega)

end Cert.MergeReferenceIdeal.Layer

namespace Cert.MergeLayer

open Idealize.ShloMosaic Idealize.ShloMosaic.TcCoe Idealize.SL.Sem

/-- The reference's argument `b` on core `c`. -/
abbrev given (m' : (ℓ : Loc MergeReferenceIdeal.nD MergeReferenceIdeal.τ MergeReferenceIdeal.sig) → Buf (Elt Ideal) ℓ) (c : Dev MergeIdeal.nD)
    (b : Ref MergeReferenceIdeal.sig .tc) := m' ((c : Thread MergeReferenceIdeal.nD MergeReferenceIdeal.τ).loc b)

/-- Both programs give the same rows. -/
theorem whole_eq (m : (ℓ : Loc MergeIdeal.nD MergeIdeal.τ MergeIdeal.sig) → Buf (Elt Ideal) ℓ)
    (m' : (ℓ : Loc MergeReferenceIdeal.nD MergeReferenceIdeal.τ MergeReferenceIdeal.sig) → Buf (Elt Ideal) ℓ) (c : Dev MergeIdeal.nD)
    (e0 : given m' c MergeReferenceIdeal.main_arg0 = m ((c : Thread MergeIdeal.nD MergeIdeal.τ).loc MergeIdeal.main_arg0))
    (e1 : given m' c MergeReferenceIdeal.main_arg1 = m ((c : Thread MergeIdeal.nD MergeIdeal.τ).loc MergeIdeal.main_arg1))
    (e2 : given m' c MergeReferenceIdeal.main_arg2 = m ((c : Thread MergeIdeal.nD MergeIdeal.τ).loc MergeIdeal.main_arg2))
    (e3 : given m' c MergeReferenceIdeal.main_arg3 = m ((c : Thread MergeIdeal.nD MergeIdeal.τ).loc MergeIdeal.main_arg3))
    (e4 : given m' c MergeReferenceIdeal.main_arg4 = m ((c : Thread MergeIdeal.nD MergeIdeal.τ).loc MergeIdeal.main_arg4))
    (e5 : given m' c MergeReferenceIdeal.main_arg5 = m ((c : Thread MergeIdeal.nD MergeIdeal.τ).loc MergeIdeal.main_arg5))
    (e6 : given m' c MergeReferenceIdeal.main_arg6 = m ((c : Thread MergeIdeal.nD MergeIdeal.τ).loc MergeIdeal.main_arg6))
    (e7 : given m' c MergeReferenceIdeal.main_arg7 = m ((c : Thread MergeIdeal.nD MergeIdeal.τ).loc MergeIdeal.main_arg7)) :
    MergeReferenceIdeal.Layer.result (given m' c MergeReferenceIdeal.main_arg0) (given m' c MergeReferenceIdeal.main_arg1)
      (given m' c MergeReferenceIdeal.main_arg2) (given m' c MergeReferenceIdeal.main_arg3) (given m' c MergeReferenceIdeal.main_arg4)
      (given m' c MergeReferenceIdeal.main_arg5) (given m' c MergeReferenceIdeal.main_arg6) (given m' c MergeReferenceIdeal.main_arg7)
      = MergeIdeal.Layer.whole m c := by
  rw [e0, e1, e2, e3, e4, e5, e6, e7]
  funext y
  obtain ⟨r, k, rfl⟩ : ∃ (r : Fin 16384) (k : Fin 2048), y = ix2 r k := ⟨y 0, y 1, eq_ix2 y⟩
  exact MergeReferenceIdeal.Layer.result_apply _ _ _ _ _ _ _ _ r k

end Cert.MergeLayer
end
-- ==== Proof.Layer.Out.lean ====
/- The output projection of the mixing half of a layer: the product of the merged rows with the weights, scaled by the batch's
   gate, added to the residual stream. -/
module

public import proofs.«01_k».proof.Proof.Layer.Down
public import proofs.«01_k».proof.Proof.Gen.OutIdeal.Value
public import proofs.«01_k».proof.Proof.Gen.OutReferenceIdeal.Run
public import Idealize.ShloMosaic.Lib.Pipeline.ValueKit

@[expose] public section

set_option maxRecDepth 16384

noncomputable section

namespace Cert.OutIdeal.Layer

open Idealize.ShloMosaic Idealize.ShloMosaic.TcCoe Idealize.ShloMosaic.Tactic Idealize.SL.Sem
open Cert.OutIdeal Cert.OutIdeal.Gen Cert.DownLayer

variable (m : (ℓ : Loc nD τ sig) → Buf (Elt Ideal) ℓ) (c : Dev nD)

/-- The merged rows. -/
def hid : S4x4096x2048.Idx → EReal := m ((c : Thread nD τ).loc main_arg0)
/-- The residual stream. -/
def x : S4x4096x2048.Idx → EReal := m ((c : Thread nD τ).loc main_arg1)
/-- The batches' modulation. -/
def mods : S4x12288.Idx → EReal := m ((c : Thread nD τ).loc main_arg2)
/-- The layers' weights. -/
def w : S2x2048x2048.Idx → EReal := m ((c : Thread nD τ).loc main_arg3)

/-- The result, batches stacked. -/
def wholeRC (r : Fin 16384) (k : Fin 2048) : EReal :=
  gated (x m c (ix3 ⟨r.val / 4096, by omega⟩ ⟨r.val % 4096, by omega⟩ k)) (mods m c (ix2 ⟨r.val / 4096, by omega⟩ ⟨4096 + k.val, by omega⟩))
    (fun l => hid m c (ix3 ⟨r.val / 4096, by omega⟩ ⟨r.val % 4096, by omega⟩ l)) (fun l => w m c (ix3 0 l k))

def whole (y : S16384x2048.Idx) : EReal := wholeRC m c (y 0) (y 1)

theorem hid_apply (r : Fin 16384) (l : Fin 2048) :
    (V m c main_v1 : S16384x2048.Idx → EReal) (ix2 r l) = hid m c (ix3 ⟨r.val / 4096, by omega⟩ ⟨r.val % 4096, by omega⟩ l) := by
  entry_read
  pointwise
  show hid m c _ = _
  blk_ext

theorem w_apply (b : Fin 2) (l : Fin 2048) (k : Fin 2048) : (V m c main_v2 : S2x2048x2048.Idx → EReal) (ix3 b l k) = w m c (ix3 b l k) := by
  entry_read
  pointwise
  rfl

theorem x_apply (r : Fin 16384) (k : Fin 2048) :
    (V m c main_v3 : S16384x2048.Idx → EReal) (ix2 r k) = x m c (ix3 ⟨r.val / 4096, by omega⟩ ⟨r.val % 4096, by omega⟩ k) := by
  entry_read
  pointwise
  show x m c _ = _
  blk_ext

theorem mods_apply (b : Fin 8) (h : b.val < 4) (k : Fin 12288) :
    (V m c main_v6 : S8x1x12288.Idx → EReal) (ix3 b 0 k) = mods m c (ix2 ⟨b.val, h⟩ k) := by
  entry_read
  pointwise
  rw [dif_pos (by omega)]
  show mods m c _ = _
  blk_ext

/-- The blocks a point stages. -/
theorem idx (t : Fin cfg0.N) :
    (win0_0.index t 0 = t.val / 4 ∧ win0_0.index t 1 = 0) ∧
    (win0_1.index t 0 = 0 ∧ win0_1.index t 1 = 0 ∧ win0_1.index t 2 = t.val % 4) ∧
    (win0_2.index t 0 = t.val / 4 ∧ win0_2.index t 1 = t.val % 4) ∧
    (win0_3.index t 0 = t.val / 8 ∧ win0_3.index t 1 = 0 ∧ win0_3.index t 2 = 8 + t.val % 4) ∧
    (win0_4.index t 0 = t.val / 4 ∧ win0_4.index t 1 = t.val % 4) := by
  revert t
  decide +kernel

variable (t : Fin cfg0.N)

theorem staged0 (a : Fin 2048) (r : Fin 16384) (hr : r.val = 2048 * (t.val / 4) + a.val) (l : Fin 2048) :
    (iblk m c 0 t : S2048x2048.Idx → EReal) (ix2 a l) = hid m c (ix3 ⟨r.val / 4096, by omega⟩ ⟨r.val % 4096, by omega⟩ l) := by
  refine Eq.trans ?_ (hid_apply m c r l)
  blk_ext [iblk, idx t]

theorem staged1 (j : Fin 512) (k : Fin 2048) (hk : k.val = 512 * (t.val % 4) + j.val) (l : Fin 2048) : (iblk m c 1 t : S1x2048x512.Idx → EReal) (ix3 0 l j) = w m c (ix3 0 l k) := by
  refine Eq.trans ?_ (w_apply m c 0 l k)
  blk_ext [iblk, idx t]

theorem staged2 (a : Fin 2048) (j : Fin 512) (r : Fin 16384) (hr : r.val = 2048 * (t.val / 4) + a.val) (k : Fin 2048) (hk : k.val = 512 * (t.val % 4) + j.val) :
    (iblk m c 2 t : S2048x512.Idx → EReal) (ix2 a j) = x m c (ix3 ⟨r.val / 4096, by omega⟩ ⟨r.val % 4096, by omega⟩ k) := by
  refine Eq.trans ?_ (x_apply m c r k)
  blk_ext [iblk, idx t]

theorem staged3 (a : Fin 2048) (j : Fin 512) (r : Fin 16384) (hr : r.val = 2048 * (t.val / 4) + a.val) (k : Fin 2048) (hk : k.val = 512 * (t.val % 4) + j.val) :
    (iblk m c 3 t : S1x1x512.Idx → EReal) (ix3 0 0 j) = mods m c (ix2 ⟨r.val / 4096, by omega⟩ ⟨4096 + k.val, by omega⟩) := by
  refine Eq.trans ?_ (mods_apply m c ⟨r.val / 4096, by omega⟩ (by simp only; omega) ⟨4096 + k.val, by omega⟩)
  blk_ext [iblk, idx t]

omit m c t in
theorem block_apply (X : FVec Ideal S2048x512 .f32) (G : FVec Ideal S1x1x512 .f32) (H : FVec Ideal S2048x2048 .bf16)
    (W : FVec Ideal S1x2048x512 .bf16) (a : Fin 2048) (j : Fin 512) :
    (k0_pay1 (F := Ideal) X G H W (ix2 a j) : EReal) = gated (X (ix2 a j)) (G (ix3 0 0 j)) (fun l => H (ix2 a l)) (fun l => W (ix3 0 l j)) := by
  pointwise [k0_pay1]
  rfl

omit t in
theorem final : (dats m 0 c).arrAt 4 cfg0.N = whole m c := by
  refine (dats m 0 c).arrAt_eq_of_covers 4 (whole m c) (by decide +kernel) fun t hf y => ?_
  have hN : t.val < 32 := lt_of_lt_of_eq t.isLt (show cfg0.N = 32 from N_0)
  blk_simp
  rw [after0_4]
  frame_out
  obtain ⟨a, j, rfl⟩ : ∃ (a : Fin 2048) (j : Fin 512), y = ix2 a j := ⟨y 0, y 1, eq_ix2 y⟩
  rw [block_apply]
  have hr : 2048 * (t.val / 4) + a.val < 16384 := by omega
  have hk : 512 * (t.val % 4) + j.val < 2048 := by omega
  rw [staged2 m c t a j ⟨_, hr⟩ rfl ⟨_, hk⟩ rfl, staged3 m c t a j ⟨_, hr⟩ rfl ⟨_, hk⟩ rfl,
    funext (staged0 m c t a ⟨_, hr⟩ rfl), funext (staged1 m c t j ⟨_, hk⟩ rfl)]
  show wholeRC m c ⟨_, hr⟩ ⟨_, hk⟩ = wholeRC m c _ _
  refine congrArg₂ (wholeRC m c) (Fin.ext ?_) (Fin.ext ?_) <;> blk_simp [idx t] <;> simp only <;> omega

end Cert.OutIdeal.Layer

namespace Cert.OutReferenceIdeal.Layer

open Idealize.ShloMosaic Idealize.ShloMosaic.TcCoe Idealize.ShloMosaic.Tactic Idealize.SL.Sem
open Cert.OutReferenceIdeal Cert.OutReferenceIdeal.Gen Cert.DownLayer

variable (H : FVec Ideal S4x4096x2048 .f32) (X : FVec Ideal S4x4096x2048 .f32) (M : FVec Ideal S4x12288 .f32) (W : FVec Ideal S2x2048x2048 .f32)

/-- The merged rows against the first layer's weights. -/
def product : FVec Ideal S4x4096x2048 .f32 :=
  Host.dotGeneral dot_S4x4096x2048_S2048x2048_S4x4096x2048_2_0_01_1_n_n none H
    (shapeCast _ (extractStridedSlice S1x2048x2048 ![0, 0, 0] W slices_S2x2048x2048_S1x2048x2048_0_0_0) shapeCasts_S1x2048x2048_S2048x2048)

/-- The residual stream and the gated product. -/
def result : FVec Ideal S16384x2048 .f32 :=
  shapeCast _ (addf X (mulf (broadcastInDim S4x4096x2048 ![0, 1, 2] bcast_S4x1x2048_S4x4096x2048_0_1_2
      (broadcastInDim S4x1x2048 ![0, 2] bcast_S4x2048_S4x1x2048_0_2 (extractStridedSlice S4x2048 ![0, 4096] M slices_S4x12288_S4x2048_0_4096)))
    (product H W))) shapeCasts_S4x4096x2048_S16384x2048

theorem product_apply (b : Fin 4) (i : Fin 4096) (k : Fin 2048) :
    (product H W (ix3 b i k) : EReal) = ∑ l : Fin 2048, (H (ix3 b i l) : EReal) * W (ix3 0 l k) := by
  pointwise [product]

theorem result_apply (r : Fin 16384) (k : Fin 2048) : (result H X M W (ix2 r k) : EReal)
    = gated (X (ix3 ⟨r.val / 4096, by omega⟩ ⟨r.val % 4096, by omega⟩ k)) (M (ix2 ⟨r.val / 4096, by omega⟩ ⟨4096 + k.val, by omega⟩))
      (fun l => H (ix3 ⟨r.val / 4096, by omega⟩ ⟨r.val % 4096, by omega⟩ l)) (fun l => W (ix3 0 l k)) := by
  pointwise [result]
  exact congrArg (fun s : EReal => X _ + M _ * s) (product_apply H W _ _ k)

end Cert.OutReferenceIdeal.Layer

namespace Cert.OutLayer

open Idealize.ShloMosaic Idealize.ShloMosaic.TcCoe Idealize.SL.Sem

/-- Both programs give the same rows. -/
theorem whole_eq (m : (ℓ : Loc OutIdeal.nD OutIdeal.τ OutIdeal.sig) → Buf (Elt Ideal) ℓ)
    (m' : (ℓ : Loc OutReferenceIdeal.nD OutReferenceIdeal.τ OutReferenceIdeal.sig) → Buf (Elt Ideal) ℓ) (c : Dev OutIdeal.nD)
    (e0 : m' ((c : Thread OutReferenceIdeal.nD OutReferenceIdeal.τ).loc OutReferenceIdeal.main_arg0) = m ((c : Thread OutIdeal.nD OutIdeal.τ).loc OutIdeal.main_arg0))
    (e1 : m' ((c : Thread OutReferenceIdeal.nD OutReferenceIdeal.τ).loc OutReferenceIdeal.main_arg1) = m ((c : Thread OutIdeal.nD OutIdeal.τ).loc OutIdeal.main_arg1))
    (e2 : m' ((c : Thread OutReferenceIdeal.nD OutReferenceIdeal.τ).loc OutReferenceIdeal.main_arg2) = m ((c : Thread OutIdeal.nD OutIdeal.τ).loc OutIdeal.main_arg2))
    (e3 : m' ((c : Thread OutReferenceIdeal.nD OutReferenceIdeal.τ).loc OutReferenceIdeal.main_arg3) = m ((c : Thread OutIdeal.nD OutIdeal.τ).loc OutIdeal.main_arg3)) :
    OutReferenceIdeal.Layer.result (m' ((c : Thread OutReferenceIdeal.nD OutReferenceIdeal.τ).loc OutReferenceIdeal.main_arg0))
      (m' ((c : Thread OutReferenceIdeal.nD OutReferenceIdeal.τ).loc OutReferenceIdeal.main_arg1))
      (m' ((c : Thread OutReferenceIdeal.nD OutReferenceIdeal.τ).loc OutReferenceIdeal.main_arg2))
      (m' ((c : Thread OutReferenceIdeal.nD OutReferenceIdeal.τ).loc OutReferenceIdeal.main_arg3)) = OutIdeal.Layer.whole m c := by
  rw [e0, e1, e2, e3]
  funext y
  obtain ⟨r, k, rfl⟩ : ∃ (r : Fin 16384) (k : Fin 2048), y = ix2 r k := ⟨y 0, y 1, eq_ix2 y⟩
  exact OutReferenceIdeal.Layer.result_apply _ _ _ _ r k

end Cert.OutLayer
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Attn.Equal
public import proofs.«01_k».proof.Proof.Gen.Down
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.Norm
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.Up
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.Proj
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.Merge
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Out
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Layer.Down
public import proofs.«01_k».proof.Proof.Layer.Norm
public import proofs.«01_k».proof.Proof.Layer.Up
public import proofs.«01_k».proof.Proof.Layer.Proj
public import proofs.«01_k».proof.Proof.Layer.Merge
public import proofs.«01_k».proof.Proof.Layer.Out
public import Idealize.ShloMosaic.Lib.Quiescent

@[expose] public section

noncomputable section

namespace Cert.Proof

open Idealize.ShloMosaic Idealize.ShloMosaic.Tactic Idealize.SL.Sem Idealize.ShloMosaic.TcCoe

/-- The kernel and its idealized print are one text, so the run written over any float values is the run of both. -/
theorem frame_kernel : Cert.quiescent_Kernel (hKernel := Cert.Kernel.Gen.facts) := fun m ρ _ =>
  Eq.mp (by sl_kernel_rfl) (Cert.KernelIdeal.Gen.frame (F := Bits) m ρ)

theorem frame_ideal : Cert.quiescent_KernelIdeal (hKernelIdeal := Cert.KernelIdeal.Gen.facts) := fun m ρ _ =>
  Cert.KernelIdeal.Gen.frame (F := Ideal) m ρ

/-- The reference is host operations only: it declares no semaphore, and its run leaves the arguments as they were. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩)
    (Cert.ReferenceIdeal.Value.run (F := Ideal) m ρ)

/-- With finite queries and keys the attention the kernel leaves is the reference's. -/
theorem algebraic : Cert.algebraic_KernelIdeal_ReferenceIdeal_pre_qk_finite (hKernelIdeal := Cert.KernelIdeal.Gen.facts)
    (hReferenceIdeal := Cert.ReferenceIdeal.Gen.facts) (hPre_qk_finite := Cert.Attn.fits) := by
  intro m g m' g' hpre hm
  refine ⟨fun c => Cert.KernelIdeal.Attn.whole m c, ?_, ?_⟩
  · refine (θ_run Cert.KernelIdeal.defs _ _).mono (fun r h c => ?_) (Cert.KernelIdeal.Value.run_blocks (F := Ideal) m g)
    exact ⟨(h c).1.trans (Cert.KernelIdeal.Attn.final m c), (h c).2⟩
  · refine (θ_run Cert.ReferenceIdeal.defs _ _).mono (fun r h c => ?_) (Cert.ReferenceIdeal.Value.run (F := Ideal) m' g')
    obtain ⟨e0, e1, e2, e3, e4, e5, e6, e7⟩ := hm c
    exact ⟨(h c).1.trans (Cert.Attn.whole_eq m m' c hpre e0 e1 e2 e3 e4 e5 e6 e7), (h c).2⟩

/-! The projection back to the model's width. -/

theorem frame_down : Cert.quiescent_Down (hDown := Cert.Down.Gen.facts) := fun m ρ _ =>
  Eq.mp (by sl_kernel_rfl) (Cert.DownIdeal.Gen.frame (F := Bits) m ρ)

theorem frame_down_ideal : Cert.quiescent_DownIdeal (hDownIdeal := Cert.DownIdeal.Gen.facts) := fun m ρ _ =>
  Cert.DownIdeal.Gen.frame (F := Ideal) m ρ

theorem frame_down_reference : Cert.quiescent_DownReferenceIdeal (hDownReferenceIdeal := Cert.DownReferenceIdeal.Gen.facts) :=
  fun m ρ _ => (θ_run Cert.DownReferenceIdeal.defs _ _).mono
    (fun r h => ⟨fun c => (h c).2, sem_eq_zero_of_no_sems rfl r.2⟩)
    (Cert.DownReferenceIdeal.Value.run (F := Ideal) m ρ)

theorem algebraic_down : Cert.algebraic_DownIdeal_DownReferenceIdeal (hDownIdeal := Cert.DownIdeal.Gen.facts)
    (hDownReferenceIdeal := Cert.DownReferenceIdeal.Gen.facts) := by
  intro m g m' g' _ hm
  refine ⟨fun c => Cert.DownIdeal.Layer.whole m c, ?_, ?_⟩
  · refine (θ_run Cert.DownIdeal.defs _ _).mono (fun r h c => ?_) (Cert.DownIdeal.Value.run_blocks (F := Ideal) m g)
    exact ⟨(h c).1.trans (Cert.DownIdeal.Layer.final m c), (h c).2⟩
  · refine (θ_run Cert.DownReferenceIdeal.defs _ _).mono (fun r h c => ?_) (Cert.DownReferenceIdeal.Value.run (F := Ideal) m' g')
    obtain ⟨e0, e1, e2, e3⟩ := hm c
    exact ⟨(h c).1.trans (Cert.DownLayer.whole_eq m m' c e0 e1 e2 e3), (h c).2⟩

/-! The final normalisation. -/

theorem frame_norm : Cert.quiescent_Norm (hNorm := Cert.Norm.Gen.facts) := fun m ρ _ =>
  Eq.mp (by sl_kernel_rfl) (Cert.NormIdeal.Gen.frame (F := Bits) m ρ)

theorem frame_norm_ideal : Cert.quiescent_NormIdeal (hNormIdeal := Cert.NormIdeal.Gen.facts) := fun m ρ _ =>
  Cert.NormIdeal.Gen.frame (F := Ideal) m ρ

theorem frame_norm_reference : Cert.quiescent_NormReferenceIdeal (hNormReferenceIdeal := Cert.NormReferenceIdeal.Gen.facts) :=
  fun m ρ _ => (θ_run Cert.NormReferenceIdeal.defs _ _).mono
    (fun r h => ⟨fun c => (h c).2, sem_eq_zero_of_no_sems rfl r.2⟩)
    (Cert.NormReferenceIdeal.Value.run (F := Ideal) m ρ)

theorem algebraic_norm : Cert.algebraic_NormIdeal_NormReferenceIdeal (hNormIdeal := Cert.NormIdeal.Gen.facts)
    (hNormReferenceIdeal := Cert.NormReferenceIdeal.Gen.facts) := by
  intro m g m' g' _ hm
  refine ⟨fun c => Cert.NormIdeal.Layer.whole m c, ?_, ?_⟩
  · refine (θ_run Cert.NormIdeal.defs _ _).mono (fun r h c => ?_) (Cert.NormIdeal.Value.run_blocks (F := Ideal) m g)
    exact ⟨(h c).1.trans (Cert.NormIdeal.Layer.final m c), (h c).2⟩
  · refine (θ_run Cert.NormReferenceIdeal.defs _ _).mono (fun r h c => ?_) (Cert.NormReferenceIdeal.Value.run (F := Ideal) m' g')
    obtain ⟨e0, e1⟩ := hm c
    exact ⟨(h c).1.trans (Cert.NormLayer.whole_eq m m' c e0 e1), (h c).2⟩

/-! The gate and up projections. -/

theorem frame_up : Cert.quiescent_Up (hUp := Cert.Up.Gen.facts) := fun m ρ _ =>
  Eq.mp (by sl_kernel_rfl) (Cert.UpIdeal.Gen.frame (F := Bits) m ρ)

theorem frame_up_ideal : Cert.quiescent_UpIdeal (hUpIdeal := Cert.UpIdeal.Gen.facts) := fun m ρ _ =>
  Cert.UpIdeal.Gen.frame (F := Ideal) m ρ

theorem frame_up_reference : Cert.quiescent_UpReferenceIdeal (hUpReferenceIdeal := Cert.UpReferenceIdeal.Gen.facts) :=
  fun m ρ _ => (θ_run Cert.UpReferenceIdeal.defs _ _).mono
    (fun r h => ⟨fun c => (h c).2, sem_eq_zero_of_no_sems rfl r.2⟩)
    (Cert.UpReferenceIdeal.Value.run (F := Ideal) m ρ)

theorem algebraic_up : Cert.algebraic_UpIdeal_UpReferenceIdeal (hUpIdeal := Cert.UpIdeal.Gen.facts)
    (hUpReferenceIdeal := Cert.UpReferenceIdeal.Gen.facts) := by
  intro m g m' g' _ hm
  refine ⟨fun c => Cert.UpIdeal.Layer.whole m c, ?_, ?_⟩
  · refine (θ_run Cert.UpIdeal.defs _ _).mono (fun r h c => ?_) (Cert.UpIdeal.Value.run_blocks (F := Ideal) m g)
    exact ⟨(h c).1.trans (Cert.UpIdeal.Layer.final m c), (h c).2⟩
  · refine (θ_run Cert.UpReferenceIdeal.defs _ _).mono (fun r h c => ?_) (Cert.UpReferenceIdeal.Value.run (F := Ideal) m' g')
    obtain ⟨e0, e1, e2, e3, e4⟩ := hm c
    exact ⟨(h c).1.trans (Cert.UpLayer.whole_eq m m' c e0 e1 e2 e3 e4), (h c).2⟩

/-! The layer's input projection. -/

theorem frame_proj : Cert.quiescent_Proj (hProj := Cert.Proj.Gen.facts) := fun m ρ _ =>
  Eq.mp (by sl_kernel_rfl) (Cert.ProjIdeal.Gen.frame (F := Bits) m ρ)

theorem frame_proj_ideal : Cert.quiescent_ProjIdeal (hProjIdeal := Cert.ProjIdeal.Gen.facts) := fun m ρ _ =>
  Cert.ProjIdeal.Gen.frame (F := Ideal) m ρ

theorem frame_proj_reference : Cert.quiescent_ProjReferenceIdeal (hProjReferenceIdeal := Cert.ProjReferenceIdeal.Gen.facts) :=
  fun m ρ _ => (θ_run Cert.ProjReferenceIdeal.defs _ _).mono
    (fun r h => ⟨fun c => (h c).2, sem_eq_zero_of_no_sems rfl r.2⟩)
    (Cert.ProjReferenceIdeal.Value.run (F := Ideal) m ρ)

theorem algebraic_proj : Cert.algebraic_ProjIdeal_ProjReferenceIdeal (hProjIdeal := Cert.ProjIdeal.Gen.facts)
    (hProjReferenceIdeal := Cert.ProjReferenceIdeal.Gen.facts) := by
  intro m g m' g' _ hm
  refine ⟨fun c => Cert.ProjIdeal.Layer.whole m c, ?_, ?_⟩
  · refine (θ_run Cert.ProjIdeal.defs _ _).mono (fun r h c => ?_) (Cert.ProjIdeal.Value.run_blocks (F := Ideal) m g)
    exact ⟨(h c).1.trans (Cert.ProjIdeal.Layer.final m c), (h c).2⟩
  · refine (θ_run Cert.ProjReferenceIdeal.defs _ _).mono (fun r h c => ?_) (Cert.ProjReferenceIdeal.Value.run (F := Ideal) m' g')
    obtain ⟨e0, e1, e2, e3⟩ := hm c
    exact ⟨(h c).1.trans (Cert.ProjLayer.whole_eq m m' c e0 e1 e2 e3), (h c).2⟩

/-! The merge of the branches. -/

theorem frame_merge : Cert.quiescent_Merge (hMerge := Cert.Merge.Gen.facts) := fun m ρ _ =>
  Eq.mp (by sl_kernel_rfl) (Cert.MergeIdeal.Gen.frame (F := Bits) m ρ)

theorem frame_merge_ideal : Cert.quiescent_MergeIdeal (hMergeIdeal := Cert.MergeIdeal.Gen.facts) := fun m ρ _ =>
  Cert.MergeIdeal.Gen.frame (F := Ideal) m ρ

theorem frame_merge_reference : Cert.quiescent_MergeReferenceIdeal (hMergeReferenceIdeal := Cert.MergeReferenceIdeal.Gen.facts) :=
  fun m ρ _ => (θ_run Cert.MergeReferenceIdeal.defs _ _).mono
    (fun r h => ⟨fun c => (h c).2, sem_eq_zero_of_no_sems rfl r.2⟩)
    (Cert.MergeReferenceIdeal.Value.run (F := Ideal) m ρ)

theorem algebraic_merge : Cert.algebraic_MergeIdeal_MergeReferenceIdeal (hMergeIdeal := Cert.MergeIdeal.Gen.facts)
    (hMergeReferenceIdeal := Cert.MergeReferenceIdeal.Gen.facts) := by
  intro m g m' g' _ hm
  refine ⟨fun c => Cert.MergeIdeal.Layer.whole m c, ?_, ?_⟩
  · refine (θ_run Cert.MergeIdeal.defs _ _).mono (fun r h c => ?_) (Cert.MergeIdeal.Value.run_blocks (F := Ideal) m g)
    exact ⟨(h c).1.trans (Cert.MergeIdeal.Layer.final m c), (h c).2⟩
  · refine (θ_run Cert.MergeReferenceIdeal.defs _ _).mono (fun r h c => ?_) (Cert.MergeReferenceIdeal.Value.run (F := Ideal) m' g')
    obtain ⟨e0, e1, e2, e3, e4, e5, e6, e7⟩ := hm c
    exact ⟨(h c).1.trans (Cert.MergeLayer.whole_eq m m' c e0 e1 e2 e3 e4 e5 e6 e7), (h c).2⟩

/-! The output projection. -/

theorem frame_out : Cert.quiescent_Out (hOut := Cert.Out.Gen.facts) := fun m ρ _ =>
  Eq.mp (by sl_kernel_rfl) (Cert.OutIdeal.Gen.frame (F := Bits) m ρ)

theorem frame_out_ideal : Cert.quiescent_OutIdeal (hOutIdeal := Cert.OutIdeal.Gen.facts) := fun m ρ _ =>
  Cert.OutIdeal.Gen.frame (F := Ideal) m ρ

theorem frame_out_reference : Cert.quiescent_OutReferenceIdeal (hOutReferenceIdeal := Cert.OutReferenceIdeal.Gen.facts) :=
  fun m ρ _ => (θ_run Cert.OutReferenceIdeal.defs _ _).mono
    (fun r h => ⟨fun c => (h c).2, sem_eq_zero_of_no_sems rfl r.2⟩)
    (Cert.OutReferenceIdeal.Value.run (F := Ideal) m ρ)

theorem algebraic_out : Cert.algebraic_OutIdeal_OutReferenceIdeal (hOutIdeal := Cert.OutIdeal.Gen.facts)
    (hOutReferenceIdeal := Cert.OutReferenceIdeal.Gen.facts) := by
  intro m g m' g' _ hm
  refine ⟨fun c => Cert.OutIdeal.Layer.whole m c, ?_, ?_⟩
  · refine (θ_run Cert.OutIdeal.defs _ _).mono (fun r h c => ?_) (Cert.OutIdeal.Value.run_blocks (F := Ideal) m g)
    exact ⟨(h c).1.trans (Cert.OutIdeal.Layer.final m c), (h c).2⟩
  · refine (θ_run Cert.OutReferenceIdeal.defs _ _).mono (fun r h c => ?_) (Cert.OutReferenceIdeal.Value.run (F := Ideal) m' g')
    obtain ⟨e0, e1, e2, e3⟩ := hm c
    exact ⟨(h c).1.trans (Cert.OutLayer.whole_eq m m' c e0 e1 e2 e3), (h c).2⟩

theorem claim : Cert.Claim :=
  ⟨Cert.Kernel.Gen.facts, Cert.KernelIdeal.Gen.facts, Cert.ReferenceIdeal.Gen.facts,
    Cert.Down.Gen.facts, Cert.DownIdeal.Gen.facts, Cert.DownReferenceIdeal.Gen.facts,
    Cert.Norm.Gen.facts, Cert.NormIdeal.Gen.facts, Cert.NormReferenceIdeal.Gen.facts,
    Cert.Up.Gen.facts, Cert.UpIdeal.Gen.facts, Cert.UpReferenceIdeal.Gen.facts,
    Cert.Proj.Gen.facts, Cert.ProjIdeal.Gen.facts, Cert.ProjReferenceIdeal.Gen.facts,
    Cert.Merge.Gen.facts, Cert.MergeIdeal.Gen.facts, Cert.MergeReferenceIdeal.Gen.facts,
    Cert.Out.Gen.facts, Cert.OutIdeal.Gen.facts, Cert.OutReferenceIdeal.Gen.facts,
    Cert.Attn.fits,
    frame_kernel, frame_ideal, fun m ρ _ => frame_ideal m ρ trivial, frame_reference, fun m ρ _ => frame_reference m ρ trivial,
    frame_down, frame_down_ideal, frame_down_reference,
    frame_norm, frame_norm_ideal, frame_norm_reference,
    frame_up, frame_up_ideal, frame_up_reference,
    frame_proj, frame_proj_ideal, frame_proj_reference,
    frame_merge, frame_merge_ideal, frame_merge_reference,
    frame_out, frame_out_ideal, frame_out_reference,
    trivial, algebraic, trivial, algebraic_down, trivial, algebraic_norm, trivial, algebraic_up, trivial, algebraic_proj,
    trivial, algebraic_merge, trivial, algebraic_out⟩

end Cert.Proof

end
